-- ==== Defs.lean ====
def Pre_Kernel [hPre_sizes_partition_batch : Cert.Pre_sizes_partition_batch.Facts] (m : (ℓ : Loc Cert.Kernel.nD Cert.Kernel.τ Cert.Kernel.sig) → Buf (Elt Bits) ℓ) : Prop :=
  ∀ c : Dev Cert.Kernel.nD,
    (Cert.Pre_sizes_partition_batch.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_sizes_partition_batch : Cert.Pre_sizes_partition_batch.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_partition_batch.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_partition_batch [hPre_sizes_partition_batch : Cert.Pre_sizes_partition_batch.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_partition_batch.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_sizes_partition_batch : Cert.Pre_sizes_partition_batch.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_sizes_partition_batch : Cert.Pre_sizes_partition_batch.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sizes_partition_batch [hReferenceIdeal : Cert.ReferenceIdeal.Facts] [hPre_sizes_partition_batch : Cert.Pre_sizes_partition_batch.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_partition_batch m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_partition_batch : Cert.Pre_sizes_partition_batch.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sizes_partition_batch : Cert.Pre_sizes_partition_batch.Facts),
    quiescent_Kernel (hKernel := hKernel) (hPre_sizes_partition_batch := hPre_sizes_partition_batch)
    ∧ quiescent_KernelIdeal (hKernelIdeal := hKernelIdeal) (hPre_sizes_partition_batch := hPre_sizes_partition_batch)
    ∧ quiescent_ReferenceIdeal (hReferenceIdeal := hReferenceIdeal)
    ∧ quiescent_ReferenceIdeal_pre_sizes_partition_batch (hReferenceIdeal := hReferenceIdeal) (hPre_sizes_partition_batch := hPre_sizes_partition_batch)
    ∧ preserves_Kernel_KernelIdeal
    ∧ algebraic_KernelIdeal_ReferenceIdeal (hKernelIdeal := hKernelIdeal) (hReferenceIdeal := hReferenceIdeal) (hPre_sizes_partition_batch := hPre_sizes_partition_batch)
-- ==== Pre_sizes_partition_batch.lean ====
abbrev S2304x2x1536 : Shape := ⟨3, ![2304, 2, 1536]⟩
abbrev S1536x8960 : Shape := ⟨2, ![1536, 8960]⟩
abbrev S8960 : Shape := ⟨1, ![8960]⟩
abbrev S14x192x8960 : Shape := ⟨3, ![14, 192, 8960]⟩
abbrev S14 : Shape := ⟨1, ![14]⟩
abbrev S_ : Shape := ⟨0, ![]⟩

class Facts : Prop where
  bcast_S_S14 : S_.BroadcastsInDim S14 (![] : Fin 0 → Fin S14.rank)
  reducesTo_S14_S_d0 : S14.ReducesTo [0] S_
  h_S_ : 0 < S_.numel

variable [Facts]

def fn {F : FTy → Type} [FloatOps F] (main_arg0 : FVec F S2304x2x1536 .bf16) (main_arg1 : FVec F S1536x8960 .fp8e4m3) (main_arg2 : FVec F S8960 .f32) (main_arg3 : IVec S14x192x8960 8) (main_arg4 : FVec F S14 .f32) (main_arg5 : IVec S14 32) : IVec S14 1 :=
  let main_c : IVec S_ 32 := constantI S_ 32 0#32
  let main_v0 : IVec S14 32 := broadcastInDim S14 ![] bcast_S_S14 main_c
  let main_v1 : IVec S14 1 := cmpi .sge main_arg5 main_v0
  let main_c_0 : IVec S_ 32 := constantI S_ 32 2304#32
  let main_v2 : IVec S14 32 := broadcastInDim S14 ![] bcast_S_S14 main_c_0
  let main_v3 : IVec S14 1 := cmpi .sle main_arg5 main_v2
  let main_v4 : IVec S14 1 := andi main_v1 main_v3
  let main_c_1 : IVec S_ 32 := constantI S_ 32 0#32
  let main_v5 : IVec S_ 32 := (fun x v => Host.reduce IntOp.addi x v reducesTo_S14_S_d0 h_S_) main_arg5 main_c_1
  let main_c_2 : IVec S_ 32 := constantI S_ 32 2304#32
  let main_v6 : IVec S_ 1 := cmpi .eq main_v5 main_c_2
  let main_v7 : IVec S14 1 := broadcastInDim S14 ![] bcast_S_S14 main_v6
  let main_v8 : IVec S14 1 := andi main_v4 main_v7
  main_v8
-- ==== Kernel.lean ====
abbrev S2304x2x1536 : Shape := ⟨3, ![2304, 2, 1536]⟩
abbrev S1536x8960 : Shape := ⟨2, ![1536, 8960]⟩
abbrev S8960 : Shape := ⟨1, ![8960]⟩
abbrev S14x192x8960 : Shape := ⟨3, ![14, 192, 8960]⟩
abbrev S14 : Shape := ⟨1, ![14]⟩
abbrev S4608x1536 : Shape := ⟨2, ![4608, 1536]⟩
abbrev S1x8960 : Shape := ⟨2, ![1, 8960]⟩
abbrev S4608x8960 : Shape := ⟨2, ![4608, 8960]⟩
abbrev S1536x1280 : Shape := ⟨2, ![1536, 1280]⟩
abbrev S1x1280 : Shape := ⟨2, ![1, 1280]⟩
abbrev S14x192x1280 : Shape := ⟨3, ![14, 192, 1280]⟩
abbrev S4608x1280 : Shape := ⟨2, ![4608, 1280]⟩
abbrev S1 : Shape := ⟨1, ![1]⟩
abbrev S1x32x1280 : Shape := ⟨3, ![1, 32, 1280]⟩
abbrev S32x1280 : Shape := ⟨2, ![32, 1280]⟩
abbrev S8x1280 : Shape := ⟨2, ![8, 1280]⟩
abbrev S16x1280 : Shape := ⟨2, ![16, 1280]⟩
abbrev S256x1536 : Shape := ⟨2, ![256, 1536]⟩
abbrev S256x1280 : Shape := ⟨2, ![256, 1280]⟩
abbrev S2304x2x8960 : Shape := ⟨3, ![2304, 2, 8960]⟩

abbrev nBuf : Space → Nat
  | .hbm => 10
  | .vmem => 10
  | .smem => 2
  | _ => 0

abbrev bufTy : (tb : Table) → Fin (tcTables nBuf tb) → BufTy
  | .hbm, ⟨0, _⟩ => ⟨S2304x2x1536, .bf16⟩
  | .hbm, ⟨1, _⟩ => ⟨S1536x8960, .fp8e4m3⟩
  | .hbm, ⟨2, _⟩ => ⟨S8960, .f32⟩
  | .hbm, ⟨3, _⟩ => ⟨S14x192x8960, .i8⟩
  | .hbm, ⟨4, _⟩ => ⟨S14, .f32⟩
  | .hbm, ⟨5, _⟩ => ⟨S14, .i32⟩
  | .hbm, ⟨6, _⟩ => ⟨S4608x1536, .bf16⟩
  | .hbm, ⟨7, _⟩ => ⟨S1x8960, .f32⟩
  | .hbm, ⟨8, _⟩ => ⟨S4608x8960, .bf16⟩
  | .hbm, ⟨9, _⟩ => ⟨S2304x2x8960, .bf16⟩
  | .local _ .vmem, ⟨0, _⟩ => ⟨S4608x1536, .bf16⟩
  | .local _ .vmem, ⟨1, _⟩ => ⟨S1536x1280, .fp8e4m3⟩
  | .local _ .vmem, ⟨2, _⟩ => ⟨S1536x1280, .fp8e4m3⟩
  | .local _ .vmem, ⟨3, _⟩ => ⟨S1x1280, .f32⟩
  | .local _ .vmem, ⟨4, _⟩ => ⟨S1x1280, .f32⟩
  | .local _ .vmem, ⟨5, _⟩ => ⟨S14x192x1280, .i8⟩
  | .local _ .vmem, ⟨6, _⟩ => ⟨S14x192x1280, .i8⟩
  | .local _ .vmem, ⟨7, _⟩ => ⟨S4608x1280, .bf16⟩
  | .local _ .vmem, ⟨8, _⟩ => ⟨S4608x1280, .bf16⟩
  | .local _ .vmem, ⟨9, _⟩ => ⟨S1536x1280, .bf16⟩
  | .local _ .smem, ⟨0, _⟩ => ⟨S14, .i32⟩
  | .local _ .smem, ⟨1, _⟩ => ⟨S14, .f32⟩
  | _, _ => ⟨S2304x2x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![7], ![false]⟩

@[reducible] def k0_t1_loop : Scf.Loop 32 :=
  let c0_i32_0 : BitVec 32 := 0#32
  let c14_i32 : BitVec 32 := 14#32
  let v0 : BitVec 32 := Scalar.addi c0_i32_0 c14_i32
  let c1_i32 : BitVec 32 := 1#32
  ⟨c0_i32_0, v0, c1_i32⟩
def k0_off1 (k0_t1 : Fin k0_t1_loop.trips) : Fin 1 → Nat :=
  let c0_i32_0 : BitVec 32 := 0#32
  let c1_i32 : BitVec 32 := 1#32
  let arg9 : BitVec 32 := Scf.iv c0_i32_0 c1_i32 k0_t1
  let v2 : Index := Scalar.indexCast arg9
  ![v2.toNat]
def k0_off2 (k0_t1 : Fin k0_t1_loop.trips) : Fin 3 → Nat :=
  let c0_i32_0 : BitVec 32 := 0#32
  let c1_i32 : BitVec 32 := 1#32
  let arg9 : BitVec 32 := Scf.iv c0_i32_0 c1_i32 k0_t1
  let v9 : Index := Scalar.indexCast arg9
  let c0 : Index := 0#32
  let c0_3 : Index := 0#32
  ![v9.toNat, 0, 0]
def k0_off3 (k0_t1 : Fin k0_t1_loop.trips) : Fin 3 → Nat :=
  let c0_i32_0 : BitVec 32 := 0#32
  let c1_i32 : BitVec 32 := 1#32
  let arg9 : BitVec 32 := Scf.iv c0_i32_0 c1_i32 k0_t1
  let v393 : Index := Scalar.indexCast arg9
  let c32_141 : Index := 32#32
  let c0_142 : Index := 0#32
  ![v393.toNat, 32, 0]
def k0_off4 (k0_t1 : Fin k0_t1_loop.trips) : Fin 3 → Nat :=
  let c0_i32_0 : BitVec 32 := 0#32
  let c1_i32 : BitVec 32 := 1#32
  let arg9 : BitVec 32 := Scf.iv c0_i32_0 c1_i32 k0_t1
  let v777 : Index := Scalar.indexCast arg9
  let c64_285 : Index := 64#32
  let c0_286 : Index := 0#32
  ![v777.toNat, 64, 0]
def k0_off5 (k0_t1 : Fin k0_t1_loop.trips) : Fin 3 → Nat :=
  let c0_i32_0 : BitVec 32 := 0#32
  let c1_i32 : BitVec 32 := 1#32
  let arg9 : BitVec 32 := Scf.iv c0_i32_0 c1_i32 k0_t1
  let v1161 : Index := Scalar.indexCast arg9
  let c96_429 : Index := 96#32
  let c0_430 : Index := 0#32
  ![v1161.toNat, 96, 0]
def k0_off6 (k0_t1 : Fin k0_t1_loop.trips) : Fin 3 → Nat :=
  let c0_i32_0 : BitVec 32 := 0#32
  let c1_i32 : BitVec 32 := 1#32
  let arg9 : BitVec 32 := Scf.iv c0_i32_0 c1_i32 k0_t1
  let v1545 : Index := Scalar.indexCast arg9
  let c128_573 : Index := 128#32
  let c0_574 : Index := 0#32
  ![v1545.toNat, 128, 0]
def k0_off7 (k0_t1 : Fin k0_t1_loop.trips) : Fin 3 → Nat :=
  let c0_i32_0 : BitVec 32 := 0#32
  let c1_i32 : BitVec 32 := 1#32
  let arg9 : BitVec 32 := Scf.iv c0_i32_0 c1_i32 k0_t1
  let v1929 : Index := Scalar.indexCast arg9
  let c160_717 : Index := 160#32
  let c0_718 : Index := 0#32
  ![v1929.toNat, 160, 0]
def k0_off8 (k0_t1 : Fin k0_t1_loop.trips) : Fin 1 → Nat :=
  let c0_i32_0 : BitVec 32 := 0#32
  let c1_i32 : BitVec 32 := 1#32
  let arg9 : BitVec 32 := Scf.iv c0_i32_0 c1_i32 k0_t1
  let v2331 : Index := Scalar.indexCast arg9
  ![v2331.toNat]
@[reducible] def k0_t2_loop (arg10 : BitVec 32) (v3 : BitVec 32) : Scf.Loop 32 :=
  let c0_i32_877 : BitVec 32 := 0#32
  let c2_i32 : BitVec 32 := 2#32
  let v4 : BitVec 32 := Scalar.muli c2_i32 v3
  let v5 : BitVec 32 := Scalar.addi arg10 v4
  let c0_i32_862 : BitVec 32 := 0#32
  let v2314 : BitVec 1 := Scalar.cmpi .sgt arg10 c0_i32_862
  let v2315 : BitVec 32 := Scalar.extui v2314
  let c0_i32_863 : BitVec 32 := 0#32
  let v2316 : BitVec 1 := Scalar.cmpi .slt arg10 c0_i32_863
  let v2317 : BitVec 32 := Scalar.extui v2316
  let v2318 : BitVec 32 := Scalar.subi v2315 v2317
  let c16_i32_861 : BitVec 32 := 16#32
  let c0_i32_864 : BitVec 32 := 0#32
  let v2319 : BitVec 1 := Scalar.cmpi .sgt c16_i32_861 c0_i32_864
  let v2320 : BitVec 32 := Scalar.extui v2319
  let c0_i32_865 : BitVec 32 := 0#32
  let v2321 : BitVec 1 := Scalar.cmpi .slt c16_i32_861 c0_i32_865
  let v2322 : BitVec 32 := Scalar.extui v2321
  let v2323 : BitVec 32 := Scalar.subi v2320 v2322
  let v2324 : BitVec 1 := Scalar.cmpi .ne v2318 v2323
  let v2325 : BitVec 32 := Scalar.remsi arg10 c16_i32_861
  let c0_i32_866 : BitVec 32 := 0#32
  let v2326 : BitVec 1 := Scalar.cmpi .ne v2325 c0_i32_866
  let v2327 : BitVec 1 := Scalar.andi v2324 v2326
  let v2313 : BitVec 32 := Scalar.divsi arg10 c16_i32_861
  let c1_i32_867 : BitVec 32 := 1#32
  let v2328 : BitVec 32 := Scalar.subi v2313 c1_i32_867
  let v2329 : BitVec 32 := Scalar.select v2327 v2328 v2313
  let c16_i32_868 : BitVec 32 := 16#32
  let v2330 : BitVec 32 := Scalar.muli v2329 c16_i32_868
  let v2333 : BitVec 32 := Scalar.subi v5 v2330
  let c256_i32 : BitVec 32 := 256#32
  let v2334 : BitVec 32 := Scalar.addi v2333 c256_i32
  let c1_i32_869 : BitVec 32 := 1#32
  let v2335 : BitVec 32 := Scalar.subi v2334 c1_i32_869
  let c0_i32_871 : BitVec 32 := 0#32
  let v2337 : BitVec 1 := Scalar.cmpi .sgt v2335 c0_i32_871
  let v2338 : BitVec 32 := Scalar.extui v2337
  let c0_i32_872 : BitVec 32 := 0#32
  let v2339 : BitVec 1 := Scalar.cmpi .slt v2335 c0_i32_872
  let v2340 : BitVec 32 := Scalar.extui v2339
  let v2341 : BitVec 32 := Scalar.subi v2338 v2340
  let c256_i32_870 : BitVec 32 := 256#32
  let c0_i32_873 : BitVec 32 := 0#32
  let v2342 : BitVec 1 := Scalar.cmpi .sgt c256_i32_870 c0_i32_873
  let v2343 : BitVec 32 := Scalar.extui v2342
  let c0_i32_874 : BitVec 32 := 0#32
  let v2344 : BitVec 1 := Scalar.cmpi .slt c256_i32_870 c0_i32_874
  let v2345 : BitVec 32 := Scalar.extui v2344
  let v2346 : BitVec 32 := Scalar.subi v2343 v2345
  let v2347 : BitVec 1 := Scalar.cmpi .ne v2341 v2346
  let v2348 : BitVec 32 := Scalar.remsi v2335 c256_i32_870
  let c0_i32_875 : BitVec 32 := 0#32
  let v2349 : BitVec 1 := Scalar.cmpi .ne v2348 c0_i32_875
  let v2350 : BitVec 1 := Scalar.andi v2347 v2349
  let v2336 : BitVec 32 := Scalar.divsi v2335 c256_i32_870
  let c1_i32_876 : BitVec 32 := 1#32
  let v2351 : BitVec 32 := Scalar.subi v2336 c1_i32_876
  let v2352 : BitVec 32 := Scalar.select v2350 v2351 v2336
  let v2353 : BitVec 32 := Scalar.subi v2352 c0_i32_877
  let c1_i32_879 : BitVec 32 := 1#32
  let v2355 : BitVec 32 := Scalar.divsi v2353 c1_i32_879
  let v2356 : BitVec 32 := Scalar.muli v2355 c1_i32_879
  let v2357 : BitVec 32 := Scalar.addi c0_i32_877 v2356
  let c1_i32_880 : BitVec 32 := 1#32
  ⟨c0_i32_877, v2357, c1_i32_880⟩
def k0_cond1 (arg10 : BitVec 32) (v3 : BitVec 32) : BitVec 1 :=
  let c2_i32 : BitVec 32 := 2#32
  let v4 : BitVec 32 := Scalar.muli c2_i32 v3
  let v5 : BitVec 32 := Scalar.addi arg10 v4
  let v6 : BitVec 1 := Scalar.cmpi .sgt v5 arg10
  let v7 : BitVec 32 := Scalar.extui v6
  let c0_i32_2 : BitVec 32 := 0#32
  let v8 : BitVec 1 := Scalar.cmpi .ne v7 c0_i32_2
  v8

def k0_mult1 (arg10 : BitVec 32) (v3 : BitVec 32) (k0_t2 : Fin (k0_t2_loop arg10 v3).trips) : BitVec 32 :=
  let c0_i32_862 : BitVec 32 := 0#32
  let v2314 : BitVec 1 := Scalar.cmpi .sgt arg10 c0_i32_862
  let v2315 : BitVec 32 := Scalar.extui v2314
  let c0_i32_863 : BitVec 32 := 0#32
  let v2316 : BitVec 1 := Scalar.cmpi .slt arg10 c0_i32_863
  let v2317 : BitVec 32 := Scalar.extui v2316
  let v2318 : BitVec 32 := Scalar.subi v2315 v2317
  let c16_i32_861 : BitVec 32 := 16#32
  let c0_i32_864 : BitVec 32 := 0#32
  let v2319 : BitVec 1 := Scalar.cmpi .sgt c16_i32_861 c0_i32_864
  let v2320 : BitVec 32 := Scalar.extui v2319
  let c0_i32_865 : BitVec 32 := 0#32
  let v2321 : BitVec 1 := Scalar.cmpi .slt c16_i32_861 c0_i32_865
  let v2322 : BitVec 32 := Scalar.extui v2321
  let v2323 : BitVec 32 := Scalar.subi v2320 v2322
  let v2324 : BitVec 1 := Scalar.cmpi .ne v2318 v2323
  let v2325 : BitVec 32 := Scalar.remsi arg10 c16_i32_861
  let c0_i32_866 : BitVec 32 := 0#32
  let v2326 : BitVec 1 := Scalar.cmpi .ne v2325 c0_i32_866
  let v2327 : BitVec 1 := Scalar.andi v2324 v2326
  let v2313 : BitVec 32 := Scalar.divsi arg10 c16_i32_861
  let c1_i32_867 : BitVec 32 := 1#32
  let v2328 : BitVec 32 := Scalar.subi v2313 c1_i32_867
  let v2329 : BitVec 32 := Scalar.select v2327 v2328 v2313
  let c16_i32_868 : BitVec 32 := 16#32
  let v2330 : BitVec 32 := Scalar.muli v2329 c16_i32_868
  let c0_i32_877 : BitVec 32 := 0#32
  let c1_i32_880 : BitVec 32 := 1#32
  let arg11 : BitVec 32 := Scf.iv c0_i32_877 c1_i32_880 k0_t2
  let c256_i32_882 : BitVec 32 := 256#32
  let v2360 : BitVec 32 := Scalar.muli arg11 c256_i32_882
  let v2361 : BitVec 32 := Scalar.addi v2330 v2360
  let c4352_i32 : BitVec 32 := 4352#32
  let v2362 : BitVec 32 := Scalar.minsi v2361 c4352_i32
  v2362
def k0_off9 (arg10 : BitVec 32) (v3 : BitVec 32) (k0_t2 : Fin (k0_t2_loop arg10 v3).trips) : Fin 2 → Nat :=
  let c0_i32_862 : BitVec 32 := 0#32
  let v2314 : BitVec 1 := Scalar.cmpi .sgt arg10 c0_i32_862
  let v2315 : BitVec 32 := Scalar.extui v2314
  let c0_i32_863 : BitVec 32 := 0#32
  let v2316 : BitVec 1 := Scalar.cmpi .slt arg10 c0_i32_863
  let v2317 : BitVec 32 := Scalar.extui v2316
  let v2318 : BitVec 32 := Scalar.subi v2315 v2317
  let c16_i32_861 : BitVec 32 := 16#32
  let c0_i32_864 : BitVec 32 := 0#32
  let v2319 : BitVec 1 := Scalar.cmpi .sgt c16_i32_861 c0_i32_864
  let v2320 : BitVec 32 := Scalar.extui v2319
  let c0_i32_865 : BitVec 32 := 0#32
  let v2321 : BitVec 1 := Scalar.cmpi .slt c16_i32_861 c0_i32_865
  let v2322 : BitVec 32 := Scalar.extui v2321
  let v2323 : BitVec 32 := Scalar.subi v2320 v2322
  let v2324 : BitVec 1 := Scalar.cmpi .ne v2318 v2323
  let v2325 : BitVec 32 := Scalar.remsi arg10 c16_i32_861
  let c0_i32_866 : BitVec 32 := 0#32
  let v2326 : BitVec 1 := Scalar.cmpi .ne v2325 c0_i32_866
  let v2327 : BitVec 1 := Scalar.andi v2324 v2326
  let v2313 : BitVec 32 := Scalar.divsi arg10 c16_i32_861
  let c1_i32_867 : BitVec 32 := 1#32
  let v2328 : BitVec 32 := Scalar.subi v2313 c1_i32_867
  let v2329 : BitVec 32 := Scalar.select v2327 v2328 v2313
  let c16_i32_868 : BitVec 32 := 16#32
  let v2330 : BitVec 32 := Scalar.muli v2329 c16_i32_868
  let c0_i32_877 : BitVec 32 := 0#32
  let c1_i32_880 : BitVec 32 := 1#32
  let arg11 : BitVec 32 := Scf.iv c0_i32_877 c1_i32_880 k0_t2
  let c256_i32_882 : BitVec 32 := 256#32
  let v2360 : BitVec 32 := Scalar.muli arg11 c256_i32_882
  let v2361 : BitVec 32 := Scalar.addi v2330 v2360
  let c4352_i32 : BitVec 32 := 4352#32
  let v2362 : BitVec 32 := Scalar.minsi v2361 c4352_i32
  let v2363 : BitVec 32 := v2362
  let v2364 : Index := Scalar.indexCast v2363
  let c0_883 : Index := 0#32
  ![v2364.toNat, 0]
def k0_off10 (arg10 : BitVec 32) (v3 : BitVec 32) (k0_t2 : Fin (k0_t2_loop arg10 v3).trips) : Fin 2 → Nat :=
  let c0_i32_862 : BitVec 32 := 0#32
  let v2314 : BitVec 1 := Scalar.cmpi .sgt arg10 c0_i32_862
  let v2315 : BitVec 32 := Scalar.extui v2314
  let c0_i32_863 : BitVec 32 := 0#32
  let v2316 : BitVec 1 := Scalar.cmpi .slt arg10 c0_i32_863
  let v2317 : BitVec 32 := Scalar.extui v2316
  let v2318 : BitVec 32 := Scalar.subi v2315 v2317
  let c16_i32_861 : BitVec 32 := 16#32
  let c0_i32_864 : BitVec 32 := 0#32
  let v2319 : BitVec 1 := Scalar.cmpi .sgt c16_i32_861 c0_i32_864
  let v2320 : BitVec 32 := Scalar.extui v2319
  let c0_i32_865 : BitVec 32 := 0#32
  let v2321 : BitVec 1 := Scalar.cmpi .slt c16_i32_861 c0_i32_865
  let v2322 : BitVec 32 := Scalar.extui v2321
  let v2323 : BitVec 32 := Scalar.subi v2320 v2322
  let v2324 : BitVec 1 := Scalar.cmpi .ne v2318 v2323
  let v2325 : BitVec 32 := Scalar.remsi arg10 c16_i32_861
  let c0_i32_866 : BitVec 32 := 0#32
  let v2326 : BitVec 1 := Scalar.cmpi .ne v2325 c0_i32_866
  let v2327 : BitVec 1 := Scalar.andi v2324 v2326
  let v2313 : BitVec 32 := Scalar.divsi arg10 c16_i32_861
  let c1_i32_867 : BitVec 32 := 1#32
  let v2328 : BitVec 32 := Scalar.subi v2313 c1_i32_867
  let v2329 : BitVec 32 := Scalar.select v2327 v2328 v2313
  let c16_i32_868 : BitVec 32 := 16#32
  let v2330 : BitVec 32 := Scalar.muli v2329 c16_i32_868
  let c0_i32_877 : BitVec 32 := 0#32
  let c1_i32_880 : BitVec 32 := 1#32
  let arg11 : BitVec 32 := Scf.iv c0_i32_877 c1_i32_880 k0_t2
  let c256_i32_882 : BitVec 32 := 256#32
  let v2360 : BitVec 32 := Scalar.muli arg11 c256_i32_882
  let v2361 : BitVec 32 := Scalar.addi v2330 v2360
  let c4352_i32 : BitVec 32 := 4352#32
  let v2362 : BitVec 32 := Scalar.minsi v2361 c4352_i32
  let v2363 : BitVec 32 := v2362
  let v2386 : Index := Scalar.indexCast v2363
  let c0_891 : Index := 0#32
  ![v2386.toNat, 0]
@[reducible] def k0_t3_loop (arg10 : BitVec 32) (v3 : BitVec 32) : Scf.Loop 32 :=
  let c0_i32_877 : BitVec 32 := 0#32
  let c2_i32 : BitVec 32 := 2#32
  let v4 : BitVec 32 := Scalar.muli c2_i32 v3
  let v5 : BitVec 32 := Scalar.addi arg10 v4
  let c0_i32_862 : BitVec 32 := 0#32
  let v2314 : BitVec 1 := Scalar.cmpi .sgt arg10 c0_i32_862
  let v2315 : BitVec 32 := Scalar.extui v2314
  let c0_i32_863 : BitVec 32 := 0#32
  let v2316 : BitVec 1 := Scalar.cmpi .slt arg10 c0_i32_863
  let v2317 : BitVec 32 := Scalar.extui v2316
  let v2318 : BitVec 32 := Scalar.subi v2315 v2317
  let c16_i32_861 : BitVec 32 := 16#32
  let c0_i32_864 : BitVec 32 := 0#32
  let v2319 : BitVec 1 := Scalar.cmpi .sgt c16_i32_861 c0_i32_864
  let v2320 : BitVec 32 := Scalar.extui v2319
  let c0_i32_865 : BitVec 32 := 0#32
  let v2321 : BitVec 1 := Scalar.cmpi .slt c16_i32_861 c0_i32_865
  let v2322 : BitVec 32 := Scalar.extui v2321
  let v2323 : BitVec 32 := Scalar.subi v2320 v2322
  let v2324 : BitVec 1 := Scalar.cmpi .ne v2318 v2323
  let v2325 : BitVec 32 := Scalar.remsi arg10 c16_i32_861
  let c0_i32_866 : BitVec 32 := 0#32
  let v2326 : BitVec 1 := Scalar.cmpi .ne v2325 c0_i32_866
  let v2327 : BitVec 1 := Scalar.andi v2324 v2326
  let v2313 : BitVec 32 := Scalar.divsi arg10 c16_i32_861
  let c1_i32_867 : BitVec 32 := 1#32
  let v2328 : BitVec 32 := Scalar.subi v2313 c1_i32_867
  let v2329 : BitVec 32 := Scalar.select v2327 v2328 v2313
  let c16_i32_868 : BitVec 32 := 16#32
  let v2330 : BitVec 32 := Scalar.muli v2329 c16_i32_868
  let v2333 : BitVec 32 := Scalar.subi v5 v2330
  let c256_i32 : BitVec 32 := 256#32
  let v2334 : BitVec 32 := Scalar.addi v2333 c256_i32
  let c1_i32_869 : BitVec 32 := 1#32
  let v2335 : BitVec 32 := Scalar.subi v2334 c1_i32_869
  let c0_i32_871 : BitVec 32 := 0#32
  let v2337 : BitVec 1 := Scalar.cmpi .sgt v2335 c0_i32_871
  let v2338 : BitVec 32 := Scalar.extui v2337
  let c0_i32_872 : BitVec 32 := 0#32
  let v2339 : BitVec 1 := Scalar.cmpi .slt v2335 c0_i32_872
  let v2340 : BitVec 32 := Scalar.extui v2339
  let v2341 : BitVec 32 := Scalar.subi v2338 v2340
  let c256_i32_870 : BitVec 32 := 256#32
  let c0_i32_873 : BitVec 32 := 0#32
  let v2342 : BitVec 1 := Scalar.cmpi .sgt c256_i32_870 c0_i32_873
  let v2343 : BitVec 32 := Scalar.extui v2342
  let c0_i32_874 : BitVec 32 := 0#32
  let v2344 : BitVec 1 := Scalar.cmpi .slt c256_i32_870 c0_i32_874
  let v2345 : BitVec 32 := Scalar.extui v2344
  let v2346 : BitVec 32 := Scalar.subi v2343 v2345
  let v2347 : BitVec 1 := Scalar.cmpi .ne v2341 v2346
  let v2348 : BitVec 32 := Scalar.remsi v2335 c256_i32_870
  let c0_i32_875 : BitVec 32 := 0#32
  let v2349 : BitVec 1 := Scalar.cmpi .ne v2348 c0_i32_875
  let v2350 : BitVec 1 := Scalar.andi v2347 v2349
  let v2336 : BitVec 32 := Scalar.divsi v2335 c256_i32_870
  let c1_i32_876 : BitVec 32 := 1#32
  let v2351 : BitVec 32 := Scalar.subi v2336 c1_i32_876
  let v2352 : BitVec 32 := Scalar.select v2350 v2351 v2336
  let v2353 : BitVec 32 := Scalar.subi v2352 c0_i32_877
  let c1_i32_879 : BitVec 32 := 1#32
  let v2355 : BitVec 32 := Scalar.divsi v2353 c1_i32_879
  let v2356 : BitVec 32 := Scalar.muli v2355 c1_i32_879
  let v2357 : BitVec 32 := Scalar.addi c0_i32_877 v2356
  let v2354 : BitVec 32 := Scalar.addi c0_i32_877 v2353
  let c1_i32_881 : BitVec 32 := 1#32
  ⟨v2357, v2354, c1_i32_881⟩
def k0_mult2 (arg10 : BitVec 32) (v3 : BitVec 32) (k0_t3 : Fin (k0_t3_loop arg10 v3).trips) : BitVec 32 :=
  let c0_i32_862 : BitVec 32 := 0#32
  let v2314 : BitVec 1 := Scalar.cmpi .sgt arg10 c0_i32_862
  let v2315 : BitVec 32 := Scalar.extui v2314
  let c0_i32_863 : BitVec 32 := 0#32
  let v2316 : BitVec 1 := Scalar.cmpi .slt arg10 c0_i32_863
  let v2317 : BitVec 32 := Scalar.extui v2316
  let v2318 : BitVec 32 := Scalar.subi v2315 v2317
  let c16_i32_861 : BitVec 32 := 16#32
  let c0_i32_864 : BitVec 32 := 0#32
  let v2319 : BitVec 1 := Scalar.cmpi .sgt c16_i32_861 c0_i32_864
  let v2320 : BitVec 32 := Scalar.extui v2319
  let c0_i32_865 : BitVec 32 := 0#32
  let v2321 : BitVec 1 := Scalar.cmpi .slt c16_i32_861 c0_i32_865
  let v2322 : BitVec 32 := Scalar.extui v2321
  let v2323 : BitVec 32 := Scalar.subi v2320 v2322
  let v2324 : BitVec 1 := Scalar.cmpi .ne v2318 v2323
  let v2325 : BitVec 32 := Scalar.remsi arg10 c16_i32_861
  let c0_i32_866 : BitVec 32 := 0#32
  let v2326 : BitVec 1 := Scalar.cmpi .ne v2325 c0_i32_866
  let v2327 : BitVec 1 := Scalar.andi v2324 v2326
  let v2313 : BitVec 32 := Scalar.divsi arg10 c16_i32_861
  let c1_i32_867 : BitVec 32 := 1#32
  let v2328 : BitVec 32 := Scalar.subi v2313 c1_i32_867
  let v2329 : BitVec 32 := Scalar.select v2327 v2328 v2313
  let c16_i32_868 : BitVec 32 := 16#32
  let v2330 : BitVec 32 := Scalar.muli v2329 c16_i32_868
  let c0_i32_877 : BitVec 32 := 0#32
  let c2_i32 : BitVec 32 := 2#32
  let v4 : BitVec 32 := Scalar.muli c2_i32 v3
  let v5 : BitVec 32 := Scalar.addi arg10 v4
  let v2333 : BitVec 32 := Scalar.subi v5 v2330
  let c256_i32 : BitVec 32 := 256#32
  let v2334 : BitVec 32 := Scalar.addi v2333 c256_i32
  let c1_i32_869 : BitVec 32 := 1#32
  let v2335 : BitVec 32 := Scalar.subi v2334 c1_i32_869
  let c0_i32_871 : BitVec 32 := 0#32
  let v2337 : BitVec 1 := Scalar.cmpi .sgt v2335 c0_i32_871
  let v2338 : BitVec 32 := Scalar.extui v2337
  let c0_i32_872 : BitVec 32 := 0#32
  let v2339 : BitVec 1 := Scalar.cmpi .slt v2335 c0_i32_872
  let v2340 : BitVec 32 := Scalar.extui v2339
  let v2341 : BitVec 32 := Scalar.subi v2338 v2340
  let c256_i32_870 : BitVec 32 := 256#32
  let c0_i32_873 : BitVec 32 := 0#32
  let v2342 : BitVec 1 := Scalar.cmpi .sgt c256_i32_870 c0_i32_873
  let v2343 : BitVec 32 := Scalar.extui v2342
  let c0_i32_874 : BitVec 32 := 0#32
  let v2344 : BitVec 1 := Scalar.cmpi .slt c256_i32_870 c0_i32_874
  let v2345 : BitVec 32 := Scalar.extui v2344
  let v2346 : BitVec 32 := Scalar.subi v2343 v2345
  let v2347 : BitVec 1 := Scalar.cmpi .ne v2341 v2346
  let v2348 : BitVec 32 := Scalar.remsi v2335 c256_i32_870
  let c0_i32_875 : BitVec 32 := 0#32
  let v2349 : BitVec 1 := Scalar.cmpi .ne v2348 c0_i32_875
  let v2350 : BitVec 1 := Scalar.andi v2347 v2349
  let v2336 : BitVec 32 := Scalar.divsi v2335 c256_i32_870
  let c1_i32_876 : BitVec 32 := 1#32
  let v2351 : BitVec 32 := Scalar.subi v2336 c1_i32_876
  let v2352 : BitVec 32 := Scalar.select v2350 v2351 v2336
  let v2353 : BitVec 32 := Scalar.subi v2352 c0_i32_877
  let c1_i32_879 : BitVec 32 := 1#32
  let v2355 : BitVec 32 := Scalar.divsi v2353 c1_i32_879
  let v2356 : BitVec 32 := Scalar.muli v2355 c1_i32_879
  let v2357 : BitVec 32 := Scalar.addi c0_i32_877 v2356
  let c1_i32_881 : BitVec 32 := 1#32
  let arg11 : BitVec 32 := Scf.iv v2357 c1_i32_881 k0_t3
  let c256_i32_882 : BitVec 32 := 256#32
  let v2360 : BitVec 32 := Scalar.muli arg11 c256_i32_882
  let v2361 : BitVec 32 := Scalar.addi v2330 v2360
  let c4352_i32 : BitVec 32 := 4352#32
  let v2362 : BitVec 32 := Scalar.minsi v2361 c4352_i32
  v2362
def k0_off11 (arg10 : BitVec 32) (v3 : BitVec 32) (k0_t3 : Fin (k0_t3_loop arg10 v3).trips) : Fin 2 → Nat :=
  let c0_i32_862 : BitVec 32 := 0#32
  let v2314 : BitVec 1 := Scalar.cmpi .sgt arg10 c0_i32_862
  let v2315 : BitVec 32 := Scalar.extui v2314
  let c0_i32_863 : BitVec 32 := 0#32
  let v2316 : BitVec 1 := Scalar.cmpi .slt arg10 c0_i32_863
  let v2317 : BitVec 32 := Scalar.extui v2316
  let v2318 : BitVec 32 := Scalar.subi v2315 v2317
  let c16_i32_861 : BitVec 32 := 16#32
  let c0_i32_864 : BitVec 32 := 0#32
  let v2319 : BitVec 1 := Scalar.cmpi .sgt c16_i32_861 c0_i32_864
  let v2320 : BitVec 32 := Scalar.extui v2319
  let c0_i32_865 : BitVec 32 := 0#32
  let v2321 : BitVec 1 := Scalar.cmpi .slt c16_i32_861 c0_i32_865
  let v2322 : BitVec 32 := Scalar.extui v2321
  let v2323 : BitVec 32 := Scalar.subi v2320 v2322
  let v2324 : BitVec 1 := Scalar.cmpi .ne v2318 v2323
  let v2325 : BitVec 32 := Scalar.remsi arg10 c16_i32_861
  let c0_i32_866 : BitVec 32 := 0#32
  let v2326 : BitVec 1 := Scalar.cmpi .ne v2325 c0_i32_866
  let v2327 : BitVec 1 := Scalar.andi v2324 v2326
  let v2313 : BitVec 32 := Scalar.divsi arg10 c16_i32_861
  let c1_i32_867 : BitVec 32 := 1#32
  let v2328 : BitVec 32 := Scalar.subi v2313 c1_i32_867
  let v2329 : BitVec 32 := Scalar.select v2327 v2328 v2313
  let c16_i32_868 : BitVec 32 := 16#32
  let v2330 : BitVec 32 := Scalar.muli v2329 c16_i32_868
  let c0_i32_877 : BitVec 32 := 0#32
  let c2_i32 : BitVec 32 := 2#32
  let v4 : BitVec 32 := Scalar.muli c2_i32 v3
  let v5 : BitVec 32 := Scalar.addi arg10 v4
  let v2333 : BitVec 32 := Scalar.subi v5 v2330
  let c256_i32 : BitVec 32 := 256#32
  let v2334 : BitVec 32 := Scalar.addi v2333 c256_i32
  let c1_i32_869 : BitVec 32 := 1#32
  let v2335 : BitVec 32 := Scalar.subi v2334 c1_i32_869
  let c0_i32_871 : BitVec 32 := 0#32
  let v2337 : BitVec 1 := Scalar.cmpi .sgt v2335 c0_i32_871
  let v2338 : BitVec 32 := Scalar.extui v2337
  let c0_i32_872 : BitVec 32 := 0#32
  let v2339 : BitVec 1 := Scalar.cmpi .slt v2335 c0_i32_872
  let v2340 : BitVec 32 := Scalar.extui v2339
  let v2341 : BitVec 32 := Scalar.subi v2338 v2340
  let c256_i32_870 : BitVec 32 := 256#32
  let c0_i32_873 : BitVec 32 := 0#32
  let v2342 : BitVec 1 := Scalar.cmpi .sgt c256_i32_870 c0_i32_873
  let v2343 : BitVec 32 := Scalar.extui v2342
  let c0_i32_874 : BitVec 32 := 0#32
  let v2344 : BitVec 1 := Scalar.cmpi .slt c256_i32_870 c0_i32_874
  let v2345 : BitVec 32 := Scalar.extui v2344
  let v2346 : BitVec 32 := Scalar.subi v2343 v2345
  let v2347 : BitVec 1 := Scalar.cmpi .ne v2341 v2346
  let v2348 : BitVec 32 := Scalar.remsi v2335 c256_i32_870
  let c0_i32_875 : BitVec 32 := 0#32
  let v2349 : BitVec 1 := Scalar.cmpi .ne v2348 c0_i32_875
  let v2350 : BitVec 1 := Scalar.andi v2347 v2349
  let v2336 : BitVec 32 := Scalar.divsi v2335 c256_i32_870
  let c1_i32_876 : BitVec 32 := 1#32
  let v2351 : BitVec 32 := Scalar.subi v2336 c1_i32_876
  let v2352 : BitVec 32 := Scalar.select v2350 v2351 v2336
  let v2353 : BitVec 32 := Scalar.subi v2352 c0_i32_877
  let c1_i32_879 : BitVec 32 := 1#32
  let v2355 : BitVec 32 := Scalar.divsi v2353 c1_i32_879
  let v2356 : BitVec 32 := Scalar.muli v2355 c1_i32_879
  let v2357 : BitVec 32 := Scalar.addi c0_i32_877 v2356
  let c1_i32_881 : BitVec 32 := 1#32
  let arg11 : BitVec 32 := Scf.iv v2357 c1_i32_881 k0_t3
  let c256_i32_882 : BitVec 32 := 256#32
  let v2360 : BitVec 32 := Scalar.muli arg11 c256_i32_882
  let v2361 : BitVec 32 := Scalar.addi v2330 v2360
  let c4352_i32 : BitVec 32 := 4352#32
  let v2362 : BitVec 32 := Scalar.minsi v2361 c4352_i32
  let v2363 : BitVec 32 := v2362
  let v2364 : Index := Scalar.indexCast v2363
  let c0_883 : Index := 0#32
  ![v2364.toNat, 0]
def k0_off12 (arg10 : BitVec 32) (v3 : BitVec 32) (k0_t3 : Fin (k0_t3_loop arg10 v3).trips) : Fin 2 → Nat :=
  let c0_i32_862 : BitVec 32 := 0#32
  let v2314 : BitVec 1 := Scalar.cmpi .sgt arg10 c0_i32_862
  let v2315 : BitVec 32 := Scalar.extui v2314
  let c0_i32_863 : BitVec 32 := 0#32
  let v2316 : BitVec 1 := Scalar.cmpi .slt arg10 c0_i32_863
  let v2317 : BitVec 32 := Scalar.extui v2316
  let v2318 : BitVec 32 := Scalar.subi v2315 v2317
  let c16_i32_861 : BitVec 32 := 16#32
  let c0_i32_864 : BitVec 32 := 0#32
  let v2319 : BitVec 1 := Scalar.cmpi .sgt c16_i32_861 c0_i32_864
  let v2320 : BitVec 32 := Scalar.extui v2319
  let c0_i32_865 : BitVec 32 := 0#32
  let v2321 : BitVec 1 := Scalar.cmpi .slt c16_i32_861 c0_i32_865
  let v2322 : BitVec 32 := Scalar.extui v2321
  let v2323 : BitVec 32 := Scalar.subi v2320 v2322
  let v2324 : BitVec 1 := Scalar.cmpi .ne v2318 v2323
  let v2325 : BitVec 32 := Scalar.remsi arg10 c16_i32_861
  let c0_i32_866 : BitVec 32 := 0#32
  let v2326 : BitVec 1 := Scalar.cmpi .ne v2325 c0_i32_866
  let v2327 : BitVec 1 := Scalar.andi v2324 v2326
  let v2313 : BitVec 32 := Scalar.divsi arg10 c16_i32_861
  let c1_i32_867 : BitVec 32 := 1#32
  let v2328 : BitVec 32 := Scalar.subi v2313 c1_i32_867
  let v2329 : BitVec 32 := Scalar.select v2327 v2328 v2313
  let c16_i32_868 : BitVec 32 := 16#32
  let v2330 : BitVec 32 := Scalar.muli v2329 c16_i32_868
  let c0_i32_877 : BitVec 32 := 0#32
  let c2_i32 : BitVec 32 := 2#32
  let v4 : BitVec 32 := Scalar.muli c2_i32 v3
  let v5 : BitVec 32 := Scalar.addi arg10 v4
  let v2333 : BitVec 32 := Scalar.subi v5 v2330
  let c256_i32 : BitVec 32 := 256#32
  let v2334 : BitVec 32 := Scalar.addi v2333 c256_i32
  let c1_i32_869 : BitVec 32 := 1#32
  let v2335 : BitVec 32 := Scalar.subi v2334 c1_i32_869
  let c0_i32_871 : BitVec 32 := 0#32
  let v2337 : BitVec 1 := Scalar.cmpi .sgt v2335 c0_i32_871
  let v2338 : BitVec 32 := Scalar.extui v2337
  let c0_i32_872 : BitVec 32 := 0#32
  let v2339 : BitVec 1 := Scalar.cmpi .slt v2335 c0_i32_872
  let v2340 : BitVec 32 := Scalar.extui v2339
  let v2341 : BitVec 32 := Scalar.subi v2338 v2340
  let c256_i32_870 : BitVec 32 := 256#32
  let c0_i32_873 : BitVec 32 := 0#32
  let v2342 : BitVec 1 := Scalar.cmpi .sgt c256_i32_870 c0_i32_873
  let v2343 : BitVec 32 := Scalar.extui v2342
  let c0_i32_874 : BitVec 32 := 0#32
  let v2344 : BitVec 1 := Scalar.cmpi .slt c256_i32_870 c0_i32_874
  let v2345 : BitVec 32 := Scalar.extui v2344
  let v2346 : BitVec 32 := Scalar.subi v2343 v2345
  let v2347 : BitVec 1 := Scalar.cmpi .ne v2341 v2346
  let v2348 : BitVec 32 := Scalar.remsi v2335 c256_i32_870
  let c0_i32_875 : BitVec 32 := 0#32
  let v2349 : BitVec 1 := Scalar.cmpi .ne v2348 c0_i32_875
  let v2350 : BitVec 1 := Scalar.andi v2347 v2349
  let v2336 : BitVec 32 := Scalar.divsi v2335 c256_i32_870
  let c1_i32_876 : BitVec 32 := 1#32
  let v2351 : BitVec 32 := Scalar.subi v2336 c1_i32_876
  let v2352 : BitVec 32 := Scalar.select v2350 v2351 v2336
  let v2353 : BitVec 32 := Scalar.subi v2352 c0_i32_877
  let c1_i32_879 : BitVec 32 := 1#32
  let v2355 : BitVec 32 := Scalar.divsi v2353 c1_i32_879
  let v2356 : BitVec 32 := Scalar.muli v2355 c1_i32_879
  let v2357 : BitVec 32 := Scalar.addi c0_i32_877 v2356
  let c1_i32_881 : BitVec 32 := 1#32
  let arg11 : BitVec 32 := Scf.iv v2357 c1_i32_881 k0_t3
  let c256_i32_882 : BitVec 32 := 256#32
  let v2360 : BitVec 32 := Scalar.muli arg11 c256_i32_882
  let v2361 : BitVec 32 := Scalar.addi v2330 v2360
  let c4352_i32 : BitVec 32 := 4352#32
  let v2362 : BitVec 32 := Scalar.minsi v2361 c4352_i32
  let v2363 : BitVec 32 := v2362
  let v2386 : Index := Scalar.indexCast v2363
  let c0_891 : Index := 0#32
  ![v2386.toNat, 0]

def k0_chk1 (arg10 : BitVec 32) (v3 : BitVec 32) : Prop :=
  (∀ (k0_h1 : k0_cond1 arg10 v3 = 1#1), (k0_t2_loop arg10 v3).OK) ∧
  (∀ k0_t2 : Fin (k0_t2_loop arg10 v3).trips, ∀ (k0_h1 : k0_cond1 arg10 v3 = 1#1), 16 ∣ (k0_mult1 arg10 v3 k0_t2).toNat) ∧
  (∀ k0_t2 : Fin (k0_t2_loop arg10 v3).trips, ∀ (k0_h1 : k0_cond1 arg10 v3 = 1#1), ∀ a, (k0_off9 arg10 v3 k0_t2) a + S256x1536.size a ≤ S4608x1536.size a) ∧
  (∀ k0_t2 : Fin (k0_t2_loop arg10 v3).trips, ∀ (k0_h1 : k0_cond1 arg10 v3 = 1#1), ∀ a, (k0_off10 arg10 v3 k0_t2) a + S256x1280.size a ≤ S4608x1280.size a) ∧
  (∀ k0_t2 : Fin (k0_t2_loop arg10 v3).trips, ∀ (k0_h1 : k0_cond1 arg10 v3 = 1#1), ∀ (hinb : ∀ a, (k0_off10 arg10 v3 k0_t2) a + S256x1280.size a ≤ S4608x1280.size a), (Rect.unit (s := S4608x1280) (k0_off10 arg10 v3 k0_t2) S256x1280.size hinb).PackedRows (EltTy.packing .bf16)) ∧
  (∀ (k0_h1 : k0_cond1 arg10 v3 = 1#1), (k0_t3_loop arg10 v3).OK) ∧
  (∀ k0_t3 : Fin (k0_t3_loop arg10 v3).trips, ∀ (k0_h1 : k0_cond1 arg10 v3 = 1#1), 16 ∣ (k0_mult2 arg10 v3 k0_t3).toNat) ∧
  (∀ k0_t3 : Fin (k0_t3_loop arg10 v3).trips, ∀ (k0_h1 : k0_cond1 arg10 v3 = 1#1), ∀ a, (k0_off11 arg10 v3 k0_t3) a + S256x1536.size a ≤ S4608x1536.size a) ∧
  (∀ k0_t3 : Fin (k0_t3_loop arg10 v3).trips, ∀ (k0_h1 : k0_cond1 arg10 v3 = 1#1), ∀ a, (k0_off12 arg10 v3 k0_t3) a + S256x1280.size a ≤ S4608x1280.size a) ∧
  (∀ k0_t3 : Fin (k0_t3_loop arg10 v3).trips, ∀ (k0_h1 : k0_cond1 arg10 v3 = 1#1), ∀ (hinb : ∀ a, (k0_off12 arg10 v3 k0_t3) a + S256x1280.size a ≤ S4608x1280.size a), (Rect.unit (s := S4608x1280) (k0_off12 arg10 v3 k0_t3) S256x1280.size hinb).PackedRows (EltTy.packing .bf16))
theorem k0_t2_ok : ∀ (arg10 : BitVec 32) (v3 : BitVec 32) (k0_hw1 : k0_chk1 arg10 v3), ∀ (k0_h1 : k0_cond1 arg10 v3 = 1#1), (k0_t2_loop arg10 v3).OK := fun arg10 v3 k0_hw1 k0_h1 => k0_hw1.1 k0_h1
theorem k0_mult1_dvd : ∀ (arg10 : BitVec 32) (v3 : BitVec 32) (k0_hw1 : k0_chk1 arg10 v3) (k0_t2 : Fin (k0_t2_loop arg10 v3).trips), ∀ (k0_h1 : k0_cond1 arg10 v3 = 1#1), 16 ∣ (k0_mult1 arg10 v3 k0_t2).toNat := fun arg10 v3 k0_hw1 k0_t2 k0_h1 => k0_hw1.2.1 k0_t2 k0_h1
theorem k0_off9_inb : ∀ (arg10 : BitVec 32) (v3 : BitVec 32) (k0_hw1 : k0_chk1 arg10 v3) (k0_t2 : Fin (k0_t2_loop arg10 v3).trips), ∀ (k0_h1 : k0_cond1 arg10 v3 = 1#1), ∀ a, (k0_off9 arg10 v3 k0_t2) a + S256x1536.size a ≤ S4608x1536.size a := fun arg10 v3 k0_hw1 k0_t2 k0_h1 => k0_hw1.2.2.1 k0_t2 k0_h1
theorem k0_off10_inb : ∀ (arg10 : BitVec 32) (v3 : BitVec 32) (k0_hw1 : k0_chk1 arg10 v3) (k0_t2 : Fin (k0_t2_loop arg10 v3).trips), ∀ (k0_h1 : k0_cond1 arg10 v3 = 1#1), ∀ a, (k0_off10 arg10 v3 k0_t2) a + S256x1280.size a ≤ S4608x1280.size a := fun arg10 v3 k0_hw1 k0_t2 k0_h1 => k0_hw1.2.2.2.1 k0_t2 k0_h1
theorem k0_off10_packedbf16 : ∀ (arg10 : BitVec 32) (v3 : BitVec 32) (k0_hw1 : k0_chk1 arg10 v3) (k0_t2 : Fin (k0_t2_loop arg10 v3).trips), ∀ (k0_h1 : k0_cond1 arg10 v3 = 1#1), (Rect.unit (s := S4608x1280) (k0_off10 arg10 v3 k0_t2) S256x1280.size (k0_off10_inb arg10 v3 k0_hw1 k0_t2 k0_h1)).PackedRows (EltTy.packing .bf16) := fun arg10 v3 k0_hw1 k0_t2 k0_h1 => k0_hw1.2.2.2.2.1 k0_t2 k0_h1 (k0_off10_inb arg10 v3 k0_hw1 k0_t2 k0_h1)
theorem k0_t3_ok : ∀ (arg10 : BitVec 32) (v3 : BitVec 32) (k0_hw1 : k0_chk1 arg10 v3), ∀ (k0_h1 : k0_cond1 arg10 v3 = 1#1), (k0_t3_loop arg10 v3).OK := fun arg10 v3 k0_hw1 k0_h1 => k0_hw1.2.2.2.2.2.1 k0_h1
theorem k0_mult2_dvd : ∀ (arg10 : BitVec 32) (v3 : BitVec 32) (k0_hw1 : k0_chk1 arg10 v3) (k0_t3 : Fin (k0_t3_loop arg10 v3).trips), ∀ (k0_h1 : k0_cond1 arg10 v3 = 1#1), 16 ∣ (k0_mult2 arg10 v3 k0_t3).toNat := fun arg10 v3 k0_hw1 k0_t3 k0_h1 => k0_hw1.2.2.2.2.2.2.1 k0_t3 k0_h1
theorem k0_off11_inb : ∀ (arg10 : BitVec 32) (v3 : BitVec 32) (k0_hw1 : k0_chk1 arg10 v3) (k0_t3 : Fin (k0_t3_loop arg10 v3).trips), ∀ (k0_h1 : k0_cond1 arg10 v3 = 1#1), ∀ a, (k0_off11 arg10 v3 k0_t3) a + S256x1536.size a ≤ S4608x1536.size a := fun arg10 v3 k0_hw1 k0_t3 k0_h1 => k0_hw1.2.2.2.2.2.2.2.1 k0_t3 k0_h1
theorem k0_off12_inb : ∀ (arg10 : BitVec 32) (v3 : BitVec 32) (k0_hw1 : k0_chk1 arg10 v3) (k0_t3 : Fin (k0_t3_loop arg10 v3).trips), ∀ (k0_h1 : k0_cond1 arg10 v3 = 1#1), ∀ a, (k0_off12 arg10 v3 k0_t3) a + S256x1280.size a ≤ S4608x1280.size a := fun arg10 v3 k0_hw1 k0_t3 k0_h1 => k0_hw1.2.2.2.2.2.2.2.2.1 k0_t3 k0_h1
theorem k0_off12_packedbf16 : ∀ (arg10 : BitVec 32) (v3 : BitVec 32) (k0_hw1 : k0_chk1 arg10 v3) (k0_t3 : Fin (k0_t3_loop arg10 v3).trips), ∀ (k0_h1 : k0_cond1 arg10 v3 = 1#1), (Rect.unit (s := S4608x1280) (k0_off12 arg10 v3 k0_t3) S256x1280.size (k0_off12_inb arg10 v3 k0_hw1 k0_t3 k0_h1)).PackedRows (EltTy.packing .bf16) := fun arg10 v3 k0_hw1 k0_t3 k0_h1 => k0_hw1.2.2.2.2.2.2.2.2.2 k0_t3 k0_h1 (k0_off12_inb arg10 v3 k0_hw1 k0_t3 k0_h1)

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S14 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S14 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4608x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1536x1280 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S14x192x1280 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4608x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2304x2x1536 : Shape := ⟨3, ![2304, 2, 1536]⟩
abbrev S1536x8960 : Shape := ⟨2, ![1536, 8960]⟩
abbrev S8960 : Shape := ⟨1, ![8960]⟩
abbrev S14x192x8960 : Shape := ⟨3, ![14, 192, 8960]⟩
abbrev S14 : Shape := ⟨1, ![14]⟩
abbrev S_ : Shape := ⟨0, ![]⟩
abbrev S2304 : Shape := ⟨1, ![2304]⟩
abbrev S1x2304 : Shape := ⟨2, ![1, 2304]⟩
abbrev S14x1 : Shape := ⟨2, ![14, 1]⟩
abbrev S14x2304 : Shape := ⟨2, ![14, 2304]⟩
abbrev S2304x2x8960 : Shape := ⟨3, ![2304, 2, 8960]⟩
abbrev S2304x1 : Shape := ⟨2, ![2304, 1]⟩
abbrev S1x14 : Shape := ⟨2, ![1, 14]⟩
abbrev S2304x14 : Shape := ⟨2, ![2304, 14]⟩
abbrev S2304x2x192 : Shape := ⟨3, ![2304, 2, 192]⟩
abbrev S2304x2x1x192 : Shape := ⟨4, ![2304, 2, 1, 192]⟩
abbrev S2304x1x14x1 : Shape := ⟨4, ![2304, 1, 14, 1]⟩
abbrev S2304x2x14x192 : Shape := ⟨4, ![2304, 2, 14, 192]⟩
abbrev S1x1x8960 : Shape := ⟨3, ![1, 1, 8960]⟩
abbrev S2304x1x1 : Shape := ⟨3, ![2304, 1, 1]⟩

abbrev nBuf : Space → Nat
  | .hbm => 219
  | .vmem => 2
  | .smem => 0
  | _ => 0

abbrev hbmTy0_0 (i : Nat) : BufTy := match i % 128 with
  | 0 => ⟨S2304x2x1536, .bf16⟩
  | 1 => ⟨S1536x8960, .fp8e4m3⟩
  | 2 => ⟨S8960, .f32⟩
  | 3 => ⟨S14x192x8960, .i8⟩
  | 4 => ⟨S14, .f32⟩
  | 5 => ⟨S14, .i32⟩
  | 6 => ⟨S_, .i32⟩
  | 7 => ⟨S_, .i32⟩
  | 8 => ⟨S14, .i32⟩
  | 9 => ⟨S2304, .i32⟩
  | 10 => ⟨S1x2304, .i32⟩
  | 11 => ⟨S14x1, .i32⟩
  | 12 => ⟨S14x2304, .i32⟩
  | 13 => ⟨S14x2304, .i32⟩
  | 14 => ⟨S14x2304, .i1⟩
  | 15 => ⟨S14x2304, .i32⟩
  | 16 => ⟨S_, .i32⟩
  | 17 => ⟨S2304, .i32⟩
  | 18 => ⟨S1536x8960, .bf16⟩
  | 19 => ⟨S2304x2x8960, .f32⟩
  | 20 => ⟨S2304x1, .i32⟩
  | 21 => ⟨S14, .i32⟩
  | 22 => ⟨S1x14, .i32⟩
  | 23 => ⟨S2304x14, .i32⟩
  | 24 => ⟨S2304x14, .i32⟩
  | 25 => ⟨S2304x14, .i1⟩
  | 26 => ⟨S2304x14, .bf16⟩
  | 27 => ⟨S14x192x8960, .i32⟩
  | 28 => ⟨S_, .i32⟩
  | 29 => ⟨S14x192x8960, .i32⟩
  | 30 => ⟨S14x192x8960, .i32⟩
  | 31 => ⟨S_, .i32⟩
  | 32 => ⟨S14x192x8960, .i32⟩
  | 33 => ⟨S14x192x8960, .i32⟩
  | 34 => ⟨S_, .i32⟩
  | 35 => ⟨S14x192x8960, .i32⟩
  | 36 => ⟨S14x192x8960, .i32⟩
  | 37 => ⟨S_, .i32⟩
  | 38 => ⟨S14x192x8960, .i32⟩
  | 39 => ⟨S14x192x8960, .i32⟩
  | 40 => ⟨S14x192x8960, .bf16⟩
  | 41 => ⟨S2304x2x192, .bf16⟩
  | 42 => ⟨S2304x2x1x192, .bf16⟩
  | 43 => ⟨S2304x1x14x1, .bf16⟩
  | 44 => ⟨S2304x2x14x192, .bf16⟩
  | 45 => ⟨S2304x2x14x192, .bf16⟩
  | 46 => ⟨S2304x2x14x192, .bf16⟩
  | 47 => ⟨S2304x2x8960, .f32⟩
  | 48 => ⟨S14x192x8960, .i32⟩
  | 49 => ⟨S_, .i32⟩
  | 50 => ⟨S14x192x8960, .i32⟩
  | 51 => ⟨S14x192x8960, .i32⟩
  | 52 => ⟨S_, .i32⟩
  | 53 => ⟨S14x192x8960, .i32⟩
  | 54 => ⟨S14x192x8960, .i32⟩
  | 55 => ⟨S_, .i32⟩
  | 56 => ⟨S14x192x8960, .i32⟩
  | 57 => ⟨S14x192x8960, .i32⟩
  | 58 => ⟨S_, .i32⟩
  | 59 => ⟨S14x192x8960, .i32⟩
  | 60 => ⟨S14x192x8960, .i32⟩
  | 61 => ⟨S14x192x8960, .bf16⟩
  | 62 => ⟨S2304x2x192, .bf16⟩
  | 63 => ⟨S2304x2x1x192, .bf16⟩
  | 64 => ⟨S2304x1x14x1, .bf16⟩
  | 65 => ⟨S2304x2x14x192, .bf16⟩
  | 66 => ⟨S2304x2x14x192, .bf16⟩
  | 67 => ⟨S2304x2x14x192, .bf16⟩
  | 68 => ⟨S2304x2x8960, .f32⟩
  | 69 => ⟨S2304x2x8960, .f32⟩
  | 70 => ⟨S14x192x8960, .i32⟩
  | 71 => ⟨S_, .i32⟩
  | 72 => ⟨S14x192x8960, .i32⟩
  | 73 => ⟨S14x192x8960, .i32⟩
  | 74 => ⟨S_, .i32⟩
  | 75 => ⟨S14x192x8960, .i32⟩
  | 76 => ⟨S14x192x8960, .i32⟩
  | 77 => ⟨S_, .i32⟩
  | 78 => ⟨S14x192x8960, .i32⟩
  | 79 => ⟨S14x192x8960, .i32⟩
  | 80 => ⟨S_, .i32⟩
  | 81 => ⟨S14x192x8960, .i32⟩
  | 82 => ⟨S14x192x8960, .i32⟩
  | 83 => ⟨S14x192x8960, .bf16⟩
  | 84 => ⟨S2304x2x192, .bf16⟩
  | 85 => ⟨S2304x2x1x192, .bf16⟩
  | 86 => ⟨S2304x1x14x1, .bf16⟩
  | 87 => ⟨S2304x2x14x192, .bf16⟩
  | 88 => ⟨S2304x2x14x192, .bf16⟩
  | 89 => ⟨S2304x2x14x192, .bf16⟩
  | 90 => ⟨S2304x2x8960, .f32⟩
  | 91 => ⟨S2304x2x8960, .f32⟩
  | 92 => ⟨S14x192x8960, .i32⟩
  | 93 => ⟨S_, .i32⟩
  | 94 => ⟨S14x192x8960, .i32⟩
  | 95 => ⟨S14x192x8960, .i32⟩
  | 96 => ⟨S_, .i32⟩
  | 97 => ⟨S14x192x8960, .i32⟩
  | 98 => ⟨S14x192x8960, .i32⟩
  | 99 => ⟨S_, .i32⟩
  | 100 => ⟨S14x192x8960, .i32⟩
  | 101 => ⟨S14x192x8960, .i32⟩
  | 102 => ⟨S_, .i32⟩
  | 103 => ⟨S14x192x8960, .i32⟩
  | 104 => ⟨S14x192x8960, .i32⟩
  | 105 => ⟨S14x192x8960, .bf16⟩
  | 106 => ⟨S2304x2x192, .bf16⟩
  | 107 => ⟨S2304x2x1x192, .bf16⟩
  | 108 => ⟨S2304x1x14x1, .bf16⟩
  | 109 => ⟨S2304x2x14x192, .bf16⟩
  | 110 => ⟨S2304x2x14x192, .bf16⟩
  | 111 => ⟨S2304x2x14x192, .bf16⟩
  | 112 => ⟨S2304x2x8960, .f32⟩
  | 113 => ⟨S2304x2x8960, .f32⟩
  | 114 => ⟨S14x192x8960, .i32⟩
  | 115 => ⟨S_, .i32⟩
  | 116 => ⟨S14x192x8960, .i32⟩
  | 117 => ⟨S14x192x8960, .i32⟩
  | 118 => ⟨S_, .i32⟩
  | 119 => ⟨S14x192x8960, .i32⟩
  | 120 => ⟨S14x192x8960, .i32⟩
  | 121 => ⟨S_, .i32⟩
  | 122 => ⟨S14x192x8960, .i32⟩
  | 123 => ⟨S14x192x8960, .i32⟩
  | 124 => ⟨S_, .i32⟩
  | 125 => ⟨S14x192x8960, .i32⟩
  | 126 => ⟨S14x192x8960, .i32⟩
  | 127 => ⟨S14x192x8960, .bf16⟩
  | _ => ⟨S2304x2x1536, .bf16⟩

abbrev hbmTy0_1 (i : Nat) : BufTy := match i % 128 with
  | 0 => ⟨S2304x2x192, .bf16⟩
  | 1 => ⟨S2304x2x1x192, .bf16⟩
  | 2 => ⟨S2304x1x14x1, .bf16⟩
  | 3 => ⟨S2304x2x14x192, .bf16⟩
  | 4 => ⟨S2304x2x14x192, .bf16⟩
  | 5 => ⟨S2304x2x14x192, .bf16⟩
  | 6 => ⟨S2304x2x8960, .f32⟩
  | 7 => ⟨S2304x2x8960, .f32⟩
  | 8 => ⟨S14x192x8960, .i32⟩
  | 9 => ⟨S_, .i32⟩
  | 10 => ⟨S14x192x8960, .i32⟩
  | 11 => ⟨S14x192x8960, .i32⟩
  | 12 => ⟨S_, .i32⟩
  | 13 => ⟨S14x192x8960, .i32⟩
  | 14 => ⟨S14x192x8960, .i32⟩
  | 15 => ⟨S_, .i32⟩
  | 16 => ⟨S14x192x8960, .i32⟩
  | 17 => ⟨S14x192x8960, .i32⟩
  | 18 => ⟨S_, .i32⟩
  | 19 => ⟨S14x192x8960, .i32⟩
  | 20 => ⟨S14x192x8960, .i32⟩
  | 21 => ⟨S14x192x8960, .bf16⟩
  | 22 => ⟨S2304x2x192, .bf16⟩
  | 23 => ⟨S2304x2x1x192, .bf16⟩
  | 24 => ⟨S2304x1x14x1, .bf16⟩
  | 25 => ⟨S2304x2x14x192, .bf16⟩
  | 26 => ⟨S2304x2x14x192, .bf16⟩
  | 27 => ⟨S2304x2x14x192, .bf16⟩
  | 28 => ⟨S2304x2x8960, .f32⟩
  | 29 => ⟨S2304x2x8960, .f32⟩
  | 30 => ⟨S14x192x8960, .i32⟩
  | 31 => ⟨S_, .i32⟩
  | 32 => ⟨S14x192x8960, .i32⟩
  | 33 => ⟨S14x192x8960, .i32⟩
  | 34 => ⟨S_, .i32⟩
  | 35 => ⟨S14x192x8960, .i32⟩
  | 36 => ⟨S14x192x8960, .i32⟩
  | 37 => ⟨S_, .i32⟩
  | 38 => ⟨S14x192x8960, .i32⟩
  | 39 => ⟨S14x192x8960, .i32⟩
  | 40 => ⟨S_, .i32⟩
  | 41 => ⟨S14x192x8960, .i32⟩
  | 42 => ⟨S14x192x8960, .i32⟩
  | 43 => ⟨S14x192x8960, .bf16⟩
  | 44 => ⟨S2304x2x192, .bf16⟩
  | 45 => ⟨S2304x2x1x192, .bf16⟩
  | 46 => ⟨S2304x1x14x1, .bf16⟩
  | 47 => ⟨S2304x2x14x192, .bf16⟩
  | 48 => ⟨S2304x2x14x192, .bf16⟩
  | 49 => ⟨S2304x2x14x192, .bf16⟩
  | 50 => ⟨S2304x2x8960, .f32⟩
  | 51 => ⟨S2304x2x8960, .f32⟩
  | 52 => ⟨S14x192x8960, .i32⟩
  | 53 => ⟨S_, .i32⟩
  | 54 => ⟨S14x192x8960, .i32⟩
  | 55 => ⟨S14x192x8960, .i32⟩
  | 56 => ⟨S_, .i32⟩
  | 57 => ⟨S14x192x8960, .i32⟩
  | 58 => ⟨S14x192x8960, .i32⟩
  | 59 => ⟨S_, .i32⟩
  | 60 => ⟨S14x192x8960, .i32⟩
  | 61 => ⟨S14x192x8960, .i32⟩
  | 62 => ⟨S_, .i32⟩
  | 63 => ⟨S14x192x8960, .i32⟩
  | 64 => ⟨S14x192x8960, .i32⟩
  | 65 => ⟨S14x192x8960, .bf16⟩
  | 66 => ⟨S2304x2x192, .bf16⟩
  | 67 => ⟨S2304x2x1x192, .bf16⟩
  | 68 => ⟨S2304x1x14x1, .bf16⟩
  | 69 => ⟨S2304x2x14x192, .bf16⟩
  | 70 => ⟨S2304x2x14x192, .bf16⟩
  | 71 => ⟨S2304x2x14x192, .bf16⟩
  | 72 => ⟨S2304x2x8960, .f32⟩
  | 73 => ⟨S2304x2x8960, .f32⟩
  | 74 => ⟨S1x1x8960, .f32⟩
  | 75 => ⟨S2304x2x8960, .f32⟩
  | 76 => ⟨S2304x2x8960, .f32⟩
  | 77 => ⟨S_, .i32⟩
  | 78 => ⟨S2304, .i32⟩
  | 79 => ⟨S2304, .i1⟩
  | 80 => ⟨S_, .i32⟩
  | 81 => ⟨S2304, .i32⟩
  | 82 => ⟨S2304, .i32⟩
  | 83 => ⟨S2304, .i32⟩
  | 84 => ⟨S2304x1, .i32⟩
  | 85 => ⟨S2304, .f32⟩
  | 86 => ⟨S2304x1x1, .f32⟩
  | 87 => ⟨S2304x2x8960, .f32⟩
  | 88 => ⟨S2304x2x8960, .f32⟩
  | 89 => ⟨S2304x2x8960, .f32⟩
  | 90 => ⟨S2304x2x8960, .bf16⟩
  | _ => ⟨S2304x2x1536, .bf16⟩

abbrev hbmTy (i : Nat) : BufTy := match i / 128 with
  | 0 => hbmTy0_0 i
  | 1 => hbmTy0_1 i
  | _ => ⟨S2304x2x1536, .bf16⟩

abbrev bufTy : (tb : Table) → Fin (tcTables nBuf tb) → BufTy
  | .hbm, ⟨i, _⟩ => hbmTy i
  | .local _ .vmem, ⟨0, _⟩ => ⟨S1536x8960, .fp8e4m3⟩
  | .local _ .vmem, ⟨1, _⟩ => ⟨S1536x8960, .bf16⟩
  | _, _ => ⟨S2304x2x1536, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_c : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_call1_call0_v0 : Ref sig .tc := ⟨.hbm, 10, rfl⟩
abbrev main_call1_call0_v1 : Ref sig .tc := ⟨.hbm, 11, rfl⟩
abbrev main_call1_call0_v2 : Ref sig .tc := ⟨.hbm, 12, rfl⟩
abbrev main_call1_call0_v3 : Ref sig .tc := ⟨.hbm, 13, rfl⟩
abbrev main_call1_call0_v4 : Ref sig .tc := ⟨.hbm, 14, rfl⟩
abbrev main_call1_call0_v5 : Ref sig .tc := ⟨.hbm, 15, rfl⟩
abbrev main_call1_call0_c : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_0 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_3 : Ref sig .tc := ⟨.hbm, 49, rfl⟩
abbrev main_v30 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_7 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_11 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_c_14 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_c_15 : Ref sig .tc := ⟨.hbm, 115, rfl⟩
abbrev main_v84 : Ref sig .tc := ⟨.hbm, 116, rfl⟩
abbrev main_v85 : Ref sig .tc := ⟨.hbm, 117, rfl⟩
abbrev main_c_16 : Ref sig .tc := ⟨.hbm, 118, rfl⟩
abbrev main_v86 : Ref sig .tc := ⟨.hbm, 119, rfl⟩
abbrev main_v87 : Ref sig .tc := ⟨.hbm, 120, rfl⟩
abbrev main_c_17 : Ref sig .tc := ⟨.hbm, 121, rfl⟩
abbrev main_v88 : Ref sig .tc := ⟨.hbm, 122, rfl⟩
abbrev main_v89 : Ref sig .tc := ⟨.hbm, 123, rfl⟩
abbrev main_c_18 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_19 : Ref sig .tc := ⟨.hbm, 137, rfl⟩
abbrev main_v102 : Ref sig .tc := ⟨.hbm, 138, rfl⟩
abbrev main_v103 : Ref sig .tc := ⟨.hbm, 139, rfl⟩
abbrev main_c_20 : Ref sig .tc := ⟨.hbm, 140, rfl⟩
abbrev main_v104 : Ref sig .tc := ⟨.hbm, 141, rfl⟩
abbrev main_v105 : Ref sig .tc := ⟨.hbm, 142, rfl⟩
abbrev main_c_21 : Ref sig .tc := ⟨.hbm, 143, rfl⟩
abbrev main_v106 : Ref sig .tc := ⟨.hbm, 144, rfl⟩
abbrev main_v107 : Ref sig .tc := ⟨.hbm, 145, rfl⟩
abbrev main_c_22 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_c_23 : Ref sig .tc := ⟨.hbm, 159, rfl⟩
abbrev main_v120 : Ref sig .tc := ⟨.hbm, 160, rfl⟩
abbrev main_v121 : Ref sig .tc := ⟨.hbm, 161, rfl⟩
abbrev main_c_24 : Ref sig .tc := ⟨.hbm, 162, rfl⟩
abbrev main_v122 : Ref sig .tc := ⟨.hbm, 163, rfl⟩
abbrev main_v123 : Ref sig .tc := ⟨.hbm, 164, rfl⟩
abbrev main_c_25 : Ref sig .tc := ⟨.hbm, 165, rfl⟩
abbrev main_v124 : Ref sig .tc := ⟨.hbm, 166, rfl⟩
abbrev main_v125 : Ref sig .tc := ⟨.hbm, 167, rfl⟩
abbrev main_c_26 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_c_27 : Ref sig .tc := ⟨.hbm, 181, rfl⟩
abbrev main_v138 : Ref sig .tc := ⟨.hbm, 182, rfl⟩
abbrev main_v139 : Ref sig .tc := ⟨.hbm, 183, rfl⟩
abbrev main_c_28 : Ref sig .tc := ⟨.hbm, 184, rfl⟩
abbrev main_v140 : Ref sig .tc := ⟨.hbm, 185, rfl⟩
abbrev main_v141 : Ref sig .tc := ⟨.hbm, 186, rfl⟩
abbrev main_c_29 : Ref sig .tc := ⟨.hbm, 187, rfl⟩
abbrev main_v142 : Ref sig .tc := ⟨.hbm, 188, rfl⟩
abbrev main_v143 : Ref sig .tc := ⟨.hbm, 189, rfl⟩
abbrev main_c_30 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_c_31 : Ref sig .tc := ⟨.hbm, 205, rfl⟩
abbrev main_v158 : Ref sig .tc := ⟨.hbm, 206, rfl⟩
abbrev main_v159 : Ref sig .tc := ⟨.hbm, 207, rfl⟩
abbrev main_c_32 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1536x8960 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x8960 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Body.lean ====
/-
  The kernel's body on whole buffers, as functions of what the buffers hold: the sign matrix one tenant's packed bits are
  decoded into (`signs`), what one chunk of rows leaves in the result (`chunk`), one tenant (`tenant`), all tenants
  (`tenants`); and the proof that the body runs to exactly those contents.
-/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.VecWindow

@[expose] public section

set_option maxRecDepth 8192

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ## The sign matrix of one tenant -/

/-- Sixteen rows of signs out of one row of 32-bit words (repeated on eight sublanes): sublane `s` shifts the pair of
    bits `2s`, `2s+1` of the word's half into the two bf16 sign positions, and the pattern of minus one is flipped there. -/
def half (w : IVec S8x1280 32) (sh : BitVec 32) : FVec F S16x1280 .bf16 :=
  have v20 : IVec S8x1280 32 := shrui w (broadcast S8x1280 sh)
  have v27 : IVec S8x1280 32 := ori (andi v20 (broadcast S8x1280 65535#32)) (andi (shli v20 (broadcast S8x1280 15#32)) (broadcast S8x1280 4294901760#32))
  have v18 : IVec S8x1280 32 := muli (broadcast S8x1280 2#32) (iota .tc S8x1280 32 [0] iota_S8x1280_d0_w32)
  have v30 : IVec S8x1280 32 := shli v27 (subi (broadcast S8x1280 15#32) v18)
  have v34 : IVec S8x1280 32 := xori (andi v30 (broadcast S8x1280 2147516416#32)) (broadcast S8x1280 3212885888#32)
  bitcastToFloat .bf16 (bitcast S16x1280 16 v34 bitcasts_S8x1280_w32_S16x1280_w16)

/-- Row `o 0` of the words a block of 32 packed bytes holds, repeated on eight sublanes. -/
def word (v : Vec F S1x32x1280 .i8) (o : Fin 2 → ℕ) (h : Shape.Slices S8x1280 o S1x1280) : IVec S8x1280 32 :=
  broadcastTo S8x1280 (shapeCast S1x1280 (extractStridedSlice S1x1280 o
    (bitcast S8x1280 32 (shapeCast S32x1280 v shapeCasts_S1x32x1280_S32x1280) bitcasts_S32x1280_w8_S8x1280_w32) h)
    shapeCasts_S1x1280_S1x1280) broadcasts_S1x1280_S8x1280

/-- The 32 rows of signs one word row gives: its low half, then its high half. -/
def sblk (v : Vec F S1x32x1280 .i8) (o : Fin 2 → ℕ) (h : Shape.Slices S8x1280 o S1x1280) : FVec F S32x1280 .bf16 :=
  shapeCast S32x1280 (concatenate S32x1280 0 [⟨S16x1280, half (word v o h) 0#32⟩, ⟨S16x1280, half (word v o h) 16#32⟩]
    concatenates_S16x1280_S16x1280_S32x1280_d0) shapeCasts_S32x1280_S32x1280

/-- The 48 blocks of 32 rows, the last written first. -/
def pieces (k0_t1 : Fin k0_t1_loop.trips) (x6 : Vec F S14x192x1280 .i8) : List (View.Piece (Elt F) S1536x1280 .bf16) :=
  [⟨Rect.unit (s := S1536x1280) ![1504, 0] S32x1280.size inb_S1536x1280_S32x1280_1504_0, sblk (View.ld x6 (Rect.unit (s := S14x192x1280) (k0_off7 k0_t1) S1x32x1280.size (k0_off7_inb k0_t1))) ![7, 0] slices_S8x1280_o7_0_S1x1280⟩,
   ⟨Rect.unit (s := S1536x1280) ![1472, 0] S32x1280.size inb_S1536x1280_S32x1280_1472_0, sblk (View.ld x6 (Rect.unit (s := S14x192x1280) (k0_off7 k0_t1) S1x32x1280.size (k0_off7_inb k0_t1))) ![6, 0] slices_S8x1280_o6_0_S1x1280⟩,
   ⟨Rect.unit (s := S1536x1280) ![1440, 0] S32x1280.size inb_S1536x1280_S32x1280_1440_0, sblk (View.ld x6 (Rect.unit (s := S14x192x1280) (k0_off7 k0_t1) S1x32x1280.size (k0_off7_inb k0_t1))) ![5, 0] slices_S8x1280_o5_0_S1x1280⟩,
   ⟨Rect.unit (s := S1536x1280) ![1408, 0] S32x1280.size inb_S1536x1280_S32x1280_1408_0, sblk (View.ld x6 (Rect.unit (s := S14x192x1280) (k0_off7 k0_t1) S1x32x1280.size (k0_off7_inb k0_t1))) ![4, 0] slices_S8x1280_o4_0_S1x1280⟩,
   ⟨Rect.unit (s := S1536x1280) ![1376, 0] S32x1280.size inb_S1536x1280_S32x1280_1376_0, sblk (View.ld x6 (Rect.unit (s := S14x192x1280) (k0_off7 k0_t1) S1x32x1280.size (k0_off7_inb k0_t1))) ![3, 0] slices_S8x1280_o3_0_S1x1280⟩,
   ⟨Rect.unit (s := S1536x1280) ![1344, 0] S32x1280.size inb_S1536x1280_S32x1280_1344_0, sblk (View.ld x6 (Rect.unit (s := S14x192x1280) (k0_off7 k0_t1) S1x32x1280.size (k0_off7_inb k0_t1))) ![2, 0] slices_S8x1280_o2_0_S1x1280⟩,
   ⟨Rect.unit (s := S1536x1280) ![1312, 0] S32x1280.size inb_S1536x1280_S32x1280_1312_0, sblk (View.ld x6 (Rect.unit (s := S14x192x1280) (k0_off7 k0_t1) S1x32x1280.size (k0_off7_inb k0_t1))) ![1, 0] slices_S8x1280_o1_0_S1x1280⟩,
   ⟨Rect.unit (s := S1536x1280) ![1280, 0] S32x1280.size inb_S1536x1280_S32x1280_1280_0, sblk (View.ld x6 (Rect.unit (s := S14x192x1280) (k0_off7 k0_t1) S1x32x1280.size (k0_off7_inb k0_t1))) ![0, 0] slices_S8x1280_o0_0_S1x1280⟩,
   ⟨Rect.unit (s := S1536x1280) ![1248, 0] S32x1280.size inb_S1536x1280_S32x1280_1248_0, sblk (View.ld x6 (Rect.unit (s := S14x192x1280) (k0_off6 k0_t1) S1x32x1280.size (k0_off6_inb k0_t1))) ![7, 0] slices_S8x1280_o7_0_S1x1280⟩,
   ⟨Rect.unit (s := S1536x1280) ![1216, 0] S32x1280.size inb_S1536x1280_S32x1280_1216_0, sblk (View.ld x6 (Rect.unit (s := S14x192x1280) (k0_off6 k0_t1) S1x32x1280.size (k0_off6_inb k0_t1))) ![6, 0] slices_S8x1280_o6_0_S1x1280⟩,
   ⟨Rect.unit (s := S1536x1280) ![1184, 0] S32x1280.size inb_S1536x1280_S32x1280_1184_0, sblk (View.ld x6 (Rect.unit (s := S14x192x1280) (k0_off6 k0_t1) S1x32x1280.size (k0_off6_inb k0_t1))) ![5, 0] slices_S8x1280_o5_0_S1x1280⟩,
   ⟨Rect.unit (s := S1536x1280) ![1152, 0] S32x1280.size inb_S1536x1280_S32x1280_1152_0, sblk (View.ld x6 (Rect.unit (s := S14x192x1280) (k0_off6 k0_t1) S1x32x1280.size (k0_off6_inb k0_t1))) ![4, 0] slices_S8x1280_o4_0_S1x1280⟩,
   ⟨Rect.unit (s := S1536x1280) ![1120, 0] S32x1280.size inb_S1536x1280_S32x1280_1120_0, sblk (View.ld x6 (Rect.unit (s := S14x192x1280) (k0_off6 k0_t1) S1x32x1280.size (k0_off6_inb k0_t1))) ![3, 0] slices_S8x1280_o3_0_S1x1280⟩,
   ⟨Rect.unit (s := S1536x1280) ![1088, 0] S32x1280.size inb_S1536x1280_S32x1280_1088_0, sblk (View.ld x6 (Rect.unit (s := S14x192x1280) (k0_off6 k0_t1) S1x32x1280.size (k0_off6_inb k0_t1))) ![2, 0] slices_S8x1280_o2_0_S1x1280⟩,
   ⟨Rect.unit (s := S1536x1280) ![1056, 0] S32x1280.size inb_S1536x1280_S32x1280_1056_0, sblk (View.ld x6 (Rect.unit (s := S14x192x1280) (k0_off6 k0_t1) S1x32x1280.size (k0_off6_inb k0_t1))) ![1, 0] slices_S8x1280_o1_0_S1x1280⟩,
   ⟨Rect.unit (s := S1536x1280) ![1024, 0] S32x1280.size inb_S1536x1280_S32x1280_1024_0, sblk (View.ld x6 (Rect.unit (s := S14x192x1280) (k0_off6 k0_t1) S1x32x1280.size (k0_off6_inb k0_t1))) ![0, 0] slices_S8x1280_o0_0_S1x1280⟩,
   ⟨Rect.unit (s := S1536x1280) ![992, 0] S32x1280.size inb_S1536x1280_S32x1280_992_0, sblk (View.ld x6 (Rect.unit (s := S14x192x1280) (k0_off5 k0_t1) S1x32x1280.size (k0_off5_inb k0_t1))) ![7, 0] slices_S8x1280_o7_0_S1x1280⟩,
   ⟨Rect.unit (s := S1536x1280) ![960, 0] S32x1280.size inb_S1536x1280_S32x1280_960_0, sblk (View.ld x6 (Rect.unit (s := S14x192x1280) (k0_off5 k0_t1) S1x32x1280.size (k0_off5_inb k0_t1))) ![6, 0] slices_S8x1280_o6_0_S1x1280⟩,
   ⟨Rect.unit (s := S1536x1280) ![928, 0] S32x1280.size inb_S1536x1280_S32x1280_928_0, sblk (View.ld x6 (Rect.unit (s := S14x192x1280) (k0_off5 k0_t1) S1x32x1280.size (k0_off5_inb k0_t1))) ![5, 0] slices_S8x1280_o5_0_S1x1280⟩,
   ⟨Rect.unit (s := S1536x1280) ![896, 0] S32x1280.size inb_S1536x1280_S32x1280_896_0, sblk (View.ld x6 (Rect.unit (s := S14x192x1280) (k0_off5 k0_t1) S1x32x1280.size (k0_off5_inb k0_t1))) ![4, 0] slices_S8x1280_o4_0_S1x1280⟩,
   ⟨Rect.unit (s := S1536x1280) ![864, 0] S32x1280.size inb_S1536x1280_S32x1280_864_0, sblk (View.ld x6 (Rect.unit (s := S14x192x1280) (k0_off5 k0_t1) S1x32x1280.size (k0_off5_inb k0_t1))) ![3, 0] slices_S8x1280_o3_0_S1x1280⟩,
   ⟨Rect.unit (s := S1536x1280) ![832, 0] S32x1280.size inb_S1536x1280_S32x1280_832_0, sblk (View.ld x6 (Rect.unit (s := S14x192x1280) (k0_off5 k0_t1) S1x32x1280.size (k0_off5_inb k0_t1))) ![2, 0] slices_S8x1280_o2_0_S1x1280⟩,
   ⟨Rect.unit (s := S1536x1280) ![800, 0] S32x1280.size inb_S1536x1280_S32x1280_800_0, sblk (View.ld x6 (Rect.unit (s := S14x192x1280) (k0_off5 k0_t1) S1x32x1280.size (k0_off5_inb k0_t1))) ![1, 0] slices_S8x1280_o1_0_S1x1280⟩,
   ⟨Rect.unit (s := S1536x1280) ![768, 0] S32x1280.size inb_S1536x1280_S32x1280_768_0, sblk (View.ld x6 (Rect.unit (s := S14x192x1280) (k0_off5 k0_t1) S1x32x1280.size (k0_off5_inb k0_t1))) ![0, 0] slices_S8x1280_o0_0_S1x1280⟩,
   ⟨Rect.unit (s := S1536x1280) ![736, 0] S32x1280.size inb_S1536x1280_S32x1280_736_0, sblk (View.ld x6 (Rect.unit (s := S14x192x1280) (k0_off4 k0_t1) S1x32x1280.size (k0_off4_inb k0_t1))) ![7, 0] slices_S8x1280_o7_0_S1x1280⟩,
   ⟨Rect.unit (s := S1536x1280) ![704, 0] S32x1280.size inb_S1536x1280_S32x1280_704_0, sblk (View.ld x6 (Rect.unit (s := S14x192x1280) (k0_off4 k0_t1) S1x32x1280.size (k0_off4_inb k0_t1))) ![6, 0] slices_S8x1280_o6_0_S1x1280⟩,
   ⟨Rect.unit (s := S1536x1280) ![672, 0] S32x1280.size inb_S1536x1280_S32x1280_672_0, sblk (View.ld x6 (Rect.unit (s := S14x192x1280) (k0_off4 k0_t1) S1x32x1280.size (k0_off4_inb k0_t1))) ![5, 0] slices_S8x1280_o5_0_S1x1280⟩,
   ⟨Rect.unit (s := S1536x1280) ![640, 0] S32x1280.size inb_S1536x1280_S32x1280_640_0, sblk (View.ld x6 (Rect.unit (s := S14x192x1280) (k0_off4 k0_t1) S1x32x1280.size (k0_off4_inb k0_t1))) ![4, 0] slices_S8x1280_o4_0_S1x1280⟩,
   ⟨Rect.unit (s := S1536x1280) ![608, 0] S32x1280.size inb_S1536x1280_S32x1280_608_0, sblk (View.ld x6 (Rect.unit (s := S14x192x1280) (k0_off4 k0_t1) S1x32x1280.size (k0_off4_inb k0_t1))) ![3, 0] slices_S8x1280_o3_0_S1x1280⟩,
   ⟨Rect.unit (s := S1536x1280) ![576, 0] S32x1280.size inb_S1536x1280_S32x1280_576_0, sblk (View.ld x6 (Rect.unit (s := S14x192x1280) (k0_off4 k0_t1) S1x32x1280.size (k0_off4_inb k0_t1))) ![2, 0] slices_S8x1280_o2_0_S1x1280⟩,
   ⟨Rect.unit (s := S1536x1280) ![544, 0] S32x1280.size inb_S1536x1280_S32x1280_544_0, sblk (View.ld x6 (Rect.unit (s := S14x192x1280) (k0_off4 k0_t1) S1x32x1280.size (k0_off4_inb k0_t1))) ![1, 0] slices_S8x1280_o1_0_S1x1280⟩,
   ⟨Rect.unit (s := S1536x1280) ![512, 0] S32x1280.size inb_S1536x1280_S32x1280_512_0, sblk (View.ld x6 (Rect.unit (s := S14x192x1280) (k0_off4 k0_t1) S1x32x1280.size (k0_off4_inb k0_t1))) ![0, 0] slices_S8x1280_o0_0_S1x1280⟩,
   ⟨Rect.unit (s := S1536x1280) ![480, 0] S32x1280.size inb_S1536x1280_S32x1280_480_0, sblk (View.ld x6 (Rect.unit (s := S14x192x1280) (k0_off3 k0_t1) S1x32x1280.size (k0_off3_inb k0_t1))) ![7, 0] slices_S8x1280_o7_0_S1x1280⟩,
   ⟨Rect.unit (s := S1536x1280) ![448, 0] S32x1280.size inb_S1536x1280_S32x1280_448_0, sblk (View.ld x6 (Rect.unit (s := S14x192x1280) (k0_off3 k0_t1) S1x32x1280.size (k0_off3_inb k0_t1))) ![6, 0] slices_S8x1280_o6_0_S1x1280⟩,
   ⟨Rect.unit (s := S1536x1280) ![416, 0] S32x1280.size inb_S1536x1280_S32x1280_416_0, sblk (View.ld x6 (Rect.unit (s := S14x192x1280) (k0_off3 k0_t1) S1x32x1280.size (k0_off3_inb k0_t1))) ![5, 0] slices_S8x1280_o5_0_S1x1280⟩,
   ⟨Rect.unit (s := S1536x1280) ![384, 0] S32x1280.size inb_S1536x1280_S32x1280_384_0, sblk (View.ld x6 (Rect.unit (s := S14x192x1280) (k0_off3 k0_t1) S1x32x1280.size (k0_off3_inb k0_t1))) ![4, 0] slices_S8x1280_o4_0_S1x1280⟩,
   ⟨Rect.unit (s := S1536x1280) ![352, 0] S32x1280.size inb_S1536x1280_S32x1280_352_0, sblk (View.ld x6 (Rect.unit (s := S14x192x1280) (k0_off3 k0_t1) S1x32x1280.size (k0_off3_inb k0_t1))) ![3, 0] slices_S8x1280_o3_0_S1x1280⟩,
   ⟨Rect.unit (s := S1536x1280) ![320, 0] S32x1280.size inb_S1536x1280_S32x1280_320_0, sblk (View.ld x6 (Rect.unit (s := S14x192x1280) (k0_off3 k0_t1) S1x32x1280.size (k0_off3_inb k0_t1))) ![2, 0] slices_S8x1280_o2_0_S1x1280⟩,
   ⟨Rect.unit (s := S1536x1280) ![288, 0] S32x1280.size inb_S1536x1280_S32x1280_288_0, sblk (View.ld x6 (Rect.unit (s := S14x192x1280) (k0_off3 k0_t1) S1x32x1280.size (k0_off3_inb k0_t1))) ![1, 0] slices_S8x1280_o1_0_S1x1280⟩,
   ⟨Rect.unit (s := S1536x1280) ![256, 0] S32x1280.size inb_S1536x1280_S32x1280_256_0, sblk (View.ld x6 (Rect.unit (s := S14x192x1280) (k0_off3 k0_t1) S1x32x1280.size (k0_off3_inb k0_t1))) ![0, 0] slices_S8x1280_o0_0_S1x1280⟩,
   ⟨Rect.unit (s := S1536x1280) ![224, 0] S32x1280.size inb_S1536x1280_S32x1280_224_0, sblk (View.ld x6 (Rect.unit (s := S14x192x1280) (k0_off2 k0_t1) S1x32x1280.size (k0_off2_inb k0_t1))) ![7, 0] slices_S8x1280_o7_0_S1x1280⟩,
   ⟨Rect.unit (s := S1536x1280) ![192, 0] S32x1280.size inb_S1536x1280_S32x1280_192_0, sblk (View.ld x6 (Rect.unit (s := S14x192x1280) (k0_off2 k0_t1) S1x32x1280.size (k0_off2_inb k0_t1))) ![6, 0] slices_S8x1280_o6_0_S1x1280⟩,
   ⟨Rect.unit (s := S1536x1280) ![160, 0] S32x1280.size inb_S1536x1280_S32x1280_160_0, sblk (View.ld x6 (Rect.unit (s := S14x192x1280) (k0_off2 k0_t1) S1x32x1280.size (k0_off2_inb k0_t1))) ![5, 0] slices_S8x1280_o5_0_S1x1280⟩,
   ⟨Rect.unit (s := S1536x1280) ![128, 0] S32x1280.size inb_S1536x1280_S32x1280_128_0, sblk (View.ld x6 (Rect.unit (s := S14x192x1280) (k0_off2 k0_t1) S1x32x1280.size (k0_off2_inb k0_t1))) ![4, 0] slices_S8x1280_o4_0_S1x1280⟩,
   ⟨Rect.unit (s := S1536x1280) ![96, 0] S32x1280.size inb_S1536x1280_S32x1280_96_0, sblk (View.ld x6 (Rect.unit (s := S14x192x1280) (k0_off2 k0_t1) S1x32x1280.size (k0_off2_inb k0_t1))) ![3, 0] slices_S8x1280_o3_0_S1x1280⟩,
   ⟨Rect.unit (s := S1536x1280) ![64, 0] S32x1280.size inb_S1536x1280_S32x1280_64_0, sblk (View.ld x6 (Rect.unit (s := S14x192x1280) (k0_off2 k0_t1) S1x32x1280.size (k0_off2_inb k0_t1))) ![2, 0] slices_S8x1280_o2_0_S1x1280⟩,
   ⟨Rect.unit (s := S1536x1280) ![32, 0] S32x1280.size inb_S1536x1280_S32x1280_32_0, sblk (View.ld x6 (Rect.unit (s := S14x192x1280) (k0_off2 k0_t1) S1x32x1280.size (k0_off2_inb k0_t1))) ![1, 0] slices_S8x1280_o1_0_S1x1280⟩,
   ⟨Rect.unit (s := S1536x1280) ![0, 0] S32x1280.size inb_S1536x1280_S32x1280_0_0, sblk (View.ld x6 (Rect.unit (s := S14x192x1280) (k0_off2 k0_t1) S1x32x1280.size (k0_off2_inb k0_t1))) ![0, 0] slices_S8x1280_o0_0_S1x1280⟩]

/-- The sign matrix of tenant `k0_t1`. -/
def signs (k0_t1 : Fin k0_t1_loop.trips) (x6 : Vec F S14x192x1280 .i8) : Vec F S1536x1280 .bf16 := View.canon (pieces k0_t1 x6)

/-- The blocks tile the matrix. -/
theorem cover (k0_t1 : Fin k0_t1_loop.trips) (x6 : Vec F S14x192x1280 .i8) (y : S1536x1280.Idx) : ∃ pc ∈ pieces k0_t1 x6, y ∈ pc.1.set :=
  View.cover_of_tiled (pieces k0_t1 x6) S32x1280.size (by rfl) y

/-! ## One chunk, one tenant, all tenants -/

/-- The row, a multiple of 16, a tenant's first chunk starts at: its first row rounded down. -/
def first (a : BitVec 32) : BitVec 32 :=
  Scalar.muli (Scalar.select (Scalar.andi
      (Scalar.cmpi .ne (Scalar.subi (Scalar.extui (Scalar.cmpi .sgt a 0#32)) (Scalar.extui (Scalar.cmpi .slt a 0#32)))
        (Scalar.subi (Scalar.extui (Scalar.cmpi .sgt 16#32 0#32)) (Scalar.extui (Scalar.cmpi .slt 16#32 0#32))))
      (Scalar.cmpi .ne (Scalar.remsi a 16#32) 0#32))
    (Scalar.subi (Scalar.divsi a 16#32) 1#32) (Scalar.divsi a 16#32)) 16#32

/-- The result after one chunk: rows `k0_off10 …` on hold the chunk's payload. -/
def chunk (x3 : Vec F S4608x1536 .bf16) (x4 : Vec F S1536x1280 .fp8e4m3) (x5 : Vec F S1x1280 .f32) (x8 : Vec F S1536x1280 .bf16)
    (a : BitVec 32) (v : BitVec 32) (sc : Elt F .f32) (hw : k0_chk1 a v) (h1 : k0_cond1 a v = 1#1) (k : Fin (k0_t2_loop a v).trips)
    (y : Vec F S4608x1280 .bf16) : Vec F S4608x1280 .bf16 :=
  VecWindow.put y (k0_off10 a v k) S256x1280.size
    (k0_pay1 a v (first a) sc k (View.ld x3 (Rect.unit (s := S4608x1536) (k0_off9 a v k) S256x1536.size (k0_off9_inb a v hw k h1)))
      x4 x8 x5 (View.ld y (Rect.unit (s := S4608x1280) (k0_off10 a v k) S256x1280.size (k0_off10_inb a v hw k h1))))

/-- The result after `n` chunks of a tenant. -/
def chunks (x3 : Vec F S4608x1536 .bf16) (x4 : Vec F S1536x1280 .fp8e4m3) (x5 : Vec F S1x1280 .f32) (x8 : Vec F S1536x1280 .bf16)
    (a : BitVec 32) (v : BitVec 32) (sc : Elt F .f32) (hw : k0_chk1 a v) (h1 : k0_cond1 a v = 1#1) (y : Vec F S4608x1280 .bf16) :
    ℕ → Vec F S4608x1280 .bf16
  | 0 => y
  | n + 1 => if h : n < (k0_t2_loop a v).trips then chunk x3 x4 x5 x8 a v sc hw h1 ⟨n, h⟩ (chunks x3 x4 x5 x8 a v sc hw h1 y n)
      else chunks x3 x4 x5 x8 a v sc hw h1 y n

theorem chunks_succ (x3 : Vec F S4608x1536 .bf16) (x4 : Vec F S1536x1280 .fp8e4m3) (x5 : Vec F S1x1280 .f32) (x8 : Vec F S1536x1280 .bf16)
    (a : BitVec 32) (v : BitVec 32) (sc : Elt F .f32) (hw : k0_chk1 a v) (h1 : k0_cond1 a v = 1#1) (y : Vec F S4608x1280 .bf16)
    (k : Fin (k0_t2_loop a v).trips) :
    chunks x3 x4 x5 x8 a v sc hw h1 y (k.val + 1) = chunk x3 x4 x5 x8 a v sc hw h1 k (chunks x3 x4 x5 x8 a v sc hw h1 y k.val) := by
  rw [chunks.eq_2]; exact dif_pos k.isLt

/-- Tenant `k`'s size and scale. -/
def size (x1 : Vec F S14 .i32) (k : Fin k0_t1_loop.trips) : BitVec 32 :=
  View.ld x1 (Rect.unit (s := S14) (k0_off1 k) S1.size (k0_off1_inb k)) (Shape.Idx.first (Nat.lt_of_lt_of_eq Nat.one_pos numel1_S1.symm))
def scale (x2 : Vec F S14 .f32) (k : Fin k0_t1_loop.trips) : Elt F .f32 :=
  View.ld x2 (Rect.unit (s := S14) (k0_off8 k) S1.size (k0_off8_inb k)) (Shape.Idx.first (Nat.lt_of_lt_of_eq Nat.one_pos numel1_S1.symm))

/-- The row tenant `n` starts at: twice the sum of the sizes before it. -/
def start (x1 : Vec F S14 .i32) : ℕ → BitVec 32
  | 0 => 0#32
  | n + 1 => if h : n < k0_t1_loop.trips then Scalar.addi (start x1 n) (Scalar.muli 2#32 (size x1 ⟨n, h⟩)) else start x1 n

theorem start_succ (x1 : Vec F S14 .i32) (k : Fin k0_t1_loop.trips) :
    start x1 (k.val + 1) = Scalar.addi (start x1 k.val) (Scalar.muli 2#32 (size x1 k)) := by
  rw [start.eq_2]; exact dif_pos k.isLt

/-- What the tenants' rows have to meet for the run: every chunk's window within the buffers. -/
def Fits (x1 : Vec F S14 .i32) : Prop := ∀ k : Fin k0_t1_loop.trips, k0_chk1 (start x1 k.val) (size x1 k)

/-- The result after tenant `k`. -/
def tenant (x1 : Vec F S14 .i32) (x2 : Vec F S14 .f32) (x3 : Vec F S4608x1536 .bf16) (x4 : Vec F S1536x1280 .fp8e4m3) (x5 : Vec F S1x1280 .f32)
    (x6 : Vec F S14x192x1280 .i8) (hf : Fits x1) (k : Fin k0_t1_loop.trips) (y : Vec F S4608x1280 .bf16) : Vec F S4608x1280 .bf16 :=
  if h1 : k0_cond1 (start x1 k.val) (size x1 k) = 1#1 then
    chunks x3 x4 x5 (signs k x6) (start x1 k.val) (size x1 k) (scale x2 k) (hf k) h1 y (k0_t2_loop (start x1 k.val) (size x1 k)).trips
  else y

/-- The result after `n` tenants. -/
def tenants (x1 : Vec F S14 .i32) (x2 : Vec F S14 .f32) (x3 : Vec F S4608x1536 .bf16) (x4 : Vec F S1536x1280 .fp8e4m3) (x5 : Vec F S1x1280 .f32)
    (x6 : Vec F S14x192x1280 .i8) (hf : Fits x1) (y : Vec F S4608x1280 .bf16) : ℕ → Vec F S4608x1280 .bf16
  | 0 => y
  | n + 1 => if h : n < k0_t1_loop.trips then tenant x1 x2 x3 x4 x5 x6 hf ⟨n, h⟩ (tenants x1 x2 x3 x4 x5 x6 hf y n)
      else tenants x1 x2 x3 x4 x5 x6 hf y n

theorem tenants_succ (x1 : Vec F S14 .i32) (x2 : Vec F S14 .f32) (x3 : Vec F S4608x1536 .bf16) (x4 : Vec F S1536x1280 .fp8e4m3) (x5 : Vec F S1x1280 .f32)
    (x6 : Vec F S14x192x1280 .i8) (hf : Fits x1) (y : Vec F S4608x1280 .bf16) (k : Fin k0_t1_loop.trips) :
    tenants x1 x2 x3 x4 x5 x6 hf y (k.val + 1) = tenant x1 x2 x3 x4 x5 x6 hf k (tenants x1 x2 x3 x4 x5 x6 hf y k.val) := by
  rw [tenants.eq_2]; exact dif_pos k.isLt

/-! ## The remainder loop runs no trip -/

theorem t3_trips (a v : BitVec 32) : (k0_t3_loop a v).trips = 0 := by
  unfold k0_t3_loop Scf.Loop.trips
  dsimp only
  generalize Scalar.subi (Scalar.select _ _ _) _ = z
  have hz : Scalar.addi 0#32 (Scalar.muli (Scalar.divsi z 1#32) 1#32) = Scalar.addi 0#32 z := by
    have h1 : Scalar.divsi z 1#32 = z := by
      show IntOp.divsi .scalar z 1#32 = z
      unfold IntOp.divsi
      rw [if_neg (fun h => h.elim (by decide) (fun h => absurd h.2 (by decide)))]
      exact BitVec.sdiv_one
    rw [h1]; show 0#32 + z * 1#32 = 0#32 + z
    simp
  rw [hz]
  unfold Scf.trips
  simp

/-! ## The runs -/

variable (i : grid0.Coords) (arg1 : Memref sig .tc .smem S14 .i32) (harg1 : arg1.IsWhole) (arg2 : Memref sig .tc .smem S14 .f32) (harg2 : arg2.IsWhole) (arg3 : Memref sig .tc .vmem S4608x1536 .bf16) (harg3 : arg3.IsWhole) (arg4 : Memref sig .tc .vmem S1536x1280 .fp8e4m3) (harg4 : arg4.IsWhole) (arg5 : Memref sig .tc .vmem S1x1280 .f32) (harg5 : arg5.IsWhole) (arg6 : Memref sig .tc .vmem S14x192x1280 .i8) (harg6 : arg6.IsWhole) (arg7 : Memref sig .tc .vmem S4608x1280 .bf16) (harg7 : arg7.IsWhole) (arg8 : Memref sig .tc .vmem S1536x1280 .bf16) (harg8 : arg8.IsWhole)

variable (𝒱 : Variants) (c : Dev nD) (bd : Option 𝒱.V) (E : Set ℕ)

set_option maxHeartbeats 2000000 in
/-- DECODING: from the packed bits, the tenant's scale and any contents of the sign scratch, the decoding leaves the tenant's signs there
    and returns the row the first chunk starts at and the scale. -/
theorem decode_run (k0_t1 : Fin k0_t1_loop.trips) (arg10 arg9 v5 : BitVec 32)
    (X2 : BufTy.Contents (Elt F) arg2.view.ty) (X6 : BufTy.Contents (Elt F) arg6.view.ty) (f8 : BufTy.Contents (Elt F) arg8.view.ty) :
    iprop((arg2.view.loc (c : Thread nD τ) ↦[arg2.view.set]{fullShare} X2) ∗ (arg6.view.loc (c : Thread nD τ) ↦[arg6.view.set]{fullShare} X6)
      ∗ (arg8.view.loc (c : Thread nD τ) ↦[arg8.view.set]{fullShare} f8)) ⊢
    (wp frame (wpE (defs₀ (F := F)) 𝒱 (c : Thread nD τ) bd) E (k0_part56 (F := F) i arg1 harg1 arg2 harg2 arg3 harg3 arg4 harg4 arg5 harg5 arg6 harg6 arg7 harg7 arg8 harg8 k0_t1 arg10 arg9 v5)
      fun r => iprop(⌜r.1 = first arg10 ∧ r.2.1 = scale (arg2.view.read (Elt F) X2) k0_t1⌝
        ∗ (arg2.view.loc (c : Thread nD τ) ↦[arg2.view.set]{fullShare} X2) ∗ (arg6.view.loc (c : Thread nD τ) ↦[arg6.view.set]{fullShare} X6)
        ∗ (∃ f, (arg8.view.loc (c : Thread nD τ) ↦[arg8.view.set]{fullShare} f) ∗ ⌜arg8.view.read (Elt F) f = signs k0_t1 (arg6.view.read (Elt F) X6)⌝)) : sProp 𝕄G) := by
  rw [k0_part56_eq_skeleton]; unfold k0_part56_skel
  iintro ⟨H2, H6, H8⟩
  sl_exec
  sl_step
  isplitr
  · ipureintro; exact ⟨rfl, rfl⟩
  isplitl [H2]; · iexact H2
  isplitl [H6]; · iexact H6
  iexists _
  isplitl [H8]; · iexact H8
  ipureintro
  exact (View.read_writes_eq_canon _ _ (pieces k0_t1 (arg6.view.read (Elt F) X6)) (cover k0_t1 _))

/-! ## The loops -/

section Chunks

variable (a v : BitVec 32) (sc : Elt F .f32) (hw : k0_chk1 a v) (h1 : k0_cond1 a v = 1#1)
  (X3 : BufTy.Contents (Elt F) arg3.view.ty) (X4 : BufTy.Contents (Elt F) arg4.view.ty) (X5 : BufTy.Contents (Elt F) arg5.view.ty)
  (X8 : BufTy.Contents (Elt F) arg8.view.ty) (y : Vec F S4608x1280 .bf16)

/-- Before chunk `k` of a tenant: the operands and the signs as they are, the result after the first `k` chunks. -/
def ChunkInv (k : ℕ) : sProp 𝕄G :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} X8)
    ∗ (∃ f, (arg7.view.loc (c : Thread nD τ) ↦[arg7.view.set]{fullShare} f) ∗ ⌜arg7.view.read (Elt F) f = chunks (arg3.view.read (Elt F) X3) (arg4.view.read (Elt F) X4) (arg5.view.read (Elt F) X5) (arg8.view.read (Elt F) X8) a v sc hw h1 y k⌝))

set_option maxHeartbeats 2000000 in
/-- ONE CHUNK. -/
theorem chunk_run (k : Fin (k0_t2_loop a v).trips) (acc : BitVec 32) :
    ChunkInv arg3 arg4 arg5 arg7 arg8 c a v sc hw h1 X3 X4 X5 X8 y k.val ⊢
    (wp frame (wpE (defs₀ (F := F)) 𝒱 (c : Thread nD τ) bd) E (k0_t2_body (F := F) i arg1 harg1 arg2 harg2 arg3 harg3 arg4 harg4 arg5 harg5 arg6 harg6 arg7 harg7 arg8 harg8 a v hw h1 (first a) sc k acc)
      fun _ => ChunkInv arg3 arg4 arg5 arg7 arg8 c a v sc hw h1 X3 X4 X5 X8 y (k.val + 1)) := by
  unfold ChunkInv k0_t2_body
  iintro ⟨H3, H4, H5, H8, %f, H7, %hf⟩
  sl_exec
  sl_step
  isplitl [H3]; · iexact H3
  isplitl [H4]; · iexact H4
  isplitl [H5]; · iexact H5
  isplitl [H8]; · iexact H8
  iexists _
  isplitl [H7]; · iexact H7
  ipureintro
  rw [chunks_succ, ← hf]
  refine (View.read_writes_cons_put _ _ _ _ [] rfl).trans ?_
  unfold chunk
  rw [View.readAt_full, View.readAt_full, View.readAt_full]
  rfl

/-- ALL CHUNKS. -/
theorem chunks_run :
    ChunkInv arg3 arg4 arg5 arg7 arg8 c a v sc hw h1 X3 X4 X5 X8 y 0 ⊢
    (wp frame (wpE (defs₀ (F := F)) 𝒱 (c : Thread nD τ) bd) E (Scf.Loop.for (k0_t2_loop a v) (k0_t2_ok a v hw h1) 0#32 (k0_t2_body (F := F) i arg1 harg1 arg2 harg2 arg3 harg3 arg4 harg4 arg5 harg5 arg6 harg6 arg7 harg7 arg8 harg8 a v hw h1 (first a) sc))
      fun _ => ChunkInv arg3 arg4 arg5 arg7 arg8 c a v sc hw h1 X3 X4 X5 X8 y (k0_t2_loop a v).trips) := by
  refine .trans ?_ (Scf.wp_for _ _ _ _ _ _ (k0_t2_ok a v hw h1) _ _ (fun k _ => ChunkInv arg3 arg4 arg5 arg7 arg8 c a v sc hw h1 X3 X4 X5 X8 y k)
    (fun k acc => chunk_run i arg1 harg1 arg2 harg2 arg3 harg3 arg4 harg4 arg5 harg5 arg6 harg6 arg7 harg7 arg8 harg8 𝒱 c bd E a v sc hw h1 X3 X4 X5 X8 y k acc))
  iintro H
  isplitl [H]; · iexact H
  iintro %_ H
  iexact H

/-- THE REMAINDER LOOP runs no trip: whatever held before it holds after. -/
theorem rest_run (init : BitVec 32) (w₁ w₂ w₃ w₄ w₅ w₆ : BitVec 32) (P : sProp 𝕄G) :
    P ⊢ (wp frame (wpE (defs₀ (F := F)) 𝒱 (c : Thread nD τ) bd) E (Scf.Loop.for (k0_t3_loop a v) (k0_t3_ok a v hw h1) init (k0_t3_body (F := F) i arg1 harg1 arg2 harg2 arg3 harg3 arg4 harg4 arg5 harg5 arg6 harg6 arg7 harg7 arg8 harg8 a v hw h1 w₁ sc w₂ w₃ w₄ w₅ w₆))
      fun _ => P) := by
  refine .trans ?_ (Scf.wp_for _ _ _ _ _ _ (k0_t3_ok a v hw h1) _ _ (fun _ _ => P)
    (fun k acc => absurd k.isLt (by have h0 : (k0_t3_loop a v).trips = 0 := t3_trips a v
                                    have h2 : k.val < (k0_t3_loop a v).trips := k.isLt
                                    intro _; omega)))
  iintro H
  isplitl [H]; · iexact H
  iintro %_ H
  iexact H

end Chunks

section Tenants

variable (X1 : BufTy.Contents (Elt F) arg1.view.ty) (X2 : BufTy.Contents (Elt F) arg2.view.ty)
  (X3 : BufTy.Contents (Elt F) arg3.view.ty) (X4 : BufTy.Contents (Elt F) arg4.view.ty) (X5 : BufTy.Contents (Elt F) arg5.view.ty)
  (X6 : BufTy.Contents (Elt F) arg6.view.ty) (hf : Fits (arg1.view.read (Elt F) X1)) (y : Vec F S4608x1280 .bf16)

/-- Before tenant `k`, carrying `acc`: the operands as they are, anything in the sign scratch, the result after the first `k`
    tenants, and `acc` the row tenant `k` starts at. -/
def TenantInv (k : ℕ) (acc : BitVec 32) : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ (∃ f, (arg7.view.loc (c : Thread nD τ) ↦[arg7.view.set]{fullShare} f) ∗ ⌜arg7.view.read (Elt F) f = tenants (arg1.view.read (Elt F) X1) (arg2.view.read (Elt F) X2) (arg3.view.read (Elt F) X3) (arg4.view.read (Elt F) X4) (arg5.view.read (Elt F) X5) (arg6.view.read (Elt F) X6) hf y k⌝)
    ∗ (∃ f, (arg8.view.loc (c : Thread nD τ) ↦[arg8.view.set]{fullShare} f)) ∗ ⌜acc = start (arg1.view.read (Elt F) X1) k⌝)

set_option maxHeartbeats 2000000 in
/-- ONE TENANT. -/
theorem tenant_run (k : Fin k0_t1_loop.trips) (acc : BitVec 32) :
    TenantInv arg1 arg2 arg3 arg4 arg5 arg6 arg7 arg8 c X1 X2 X3 X4 X5 X6 hf y k.val acc ⊢
    (wp frame (wpE (defs₀ (F := F)) 𝒱 (c : Thread nD τ) bd) E (k0_t1_body (F := F) i arg1 harg1 arg2 harg2 arg3 harg3 arg4 harg4 arg5 harg5 arg6 harg6 arg7 harg7 arg8 harg8 k acc)
      fun acc' => TenantInv arg1 arg2 arg3 arg4 arg5 arg6 arg7 arg8 c X1 X2 X3 X4 X5 X6 hf y (k.val + 1) acc') := by
  unfold TenantInv k0_t1_body
  iintro ⟨H1, H2, H3, H4, H5, H6, ⟨%f, H7, %hf7⟩, ⟨%f8, H8⟩, %hacc⟩
  subst hacc
  have hchk := hf k
  have hcut := fun a9 v5 => decode_run (F := F) i arg1 harg1 arg2 harg2 arg3 harg3 arg4 harg4 arg5 harg5 arg6 harg6 arg7 harg7 arg8 harg8 𝒱 c bd E k (start (arg1.view.read (Elt F) X1) k.val) a9 v5 X2 X6 f8
  rw [start_succ, tenants_succ, tenant]
  by_cases h1 : k0_cond1 (start (arg1.view.read (Elt F) X1) k.val) (size (arg1.view.read (Elt F) X1) k) = 1#1
  · rw [dif_pos h1]
    sl_exec
    obtain ⟨hv, hs⟩ := hk0_part56_0
    dsimp only at hv hs
    subst hv hs
    iapply (exec_cut _ _ _ (chunks_run i arg1 harg1 arg2 harg2 arg3 harg3 arg4 harg4 arg5 harg5 arg6 harg6 arg7 harg7 arg8 harg8 𝒱 c bd E (start (arg1.view.read (Elt F) X1) k.val) (size (arg1.view.read (Elt F) X1) k) (scale (arg2.view.read (Elt F) X2) k) hchk h1 X3 X4 X5 fk0_part56_0
      (tenants (arg1.view.read (Elt F) X1) (arg2.view.read (Elt F) X2) (arg3.view.read (Elt F) X3) (arg4.view.read (Elt F) X4) (arg5.view.read (Elt F) X5) (arg6.view.read (Elt F) X6) hf y k.val))) $$ [H3 H4 H5 H7 Hk0_part56_3]
    · unfold ChunkInv
      isplitl [H3]; · iexact H3
      isplitl [H4]; · iexact H4
      isplitl [H5]; · iexact H5
      isplitl [Hk0_part56_3]; · iexact Hk0_part56_3
      iexists f
      isplitl [H7]; · iexact H7
      ipureintro; exact hf7
    iintro %_ H
    iapply (exec_cut _ _ _ (rest_run i arg1 harg1 arg2 harg2 arg3 harg3 arg4 harg4 arg5 harg5 arg6 harg6 arg7 harg7 arg8 harg8 𝒱 c bd E (start (arg1.view.read (Elt F) X1) k.val) (size (arg1.view.read (Elt F) X1) k) (scale (arg2.view.read (Elt F) X2) k) hchk h1 _ _ _ _ _ _ _ _)) $$ [H]
    · iexact H
    iintro %_ H
    unfold ChunkInv
    icases H with ⟨H3, H4, H5, H8, %f', H7, %hf'⟩
    sl_step
    isplitl [H1]; · iexact H1
    isplitl [Hk0_part56_1]; · iexact Hk0_part56_1
    isplitl [H3]; · iexact H3
    isplitl [H4]; · iexact H4
    isplitl [H5]; · iexact H5
    isplitl [Hk0_part56_2]; · iexact Hk0_part56_2
    isplitl [H7]
    · iexists f'
      isplitl [H7]; · iexact H7
      ipureintro; rw [hf', hk0_part56_4]
    isplitl [H8]
    · iexists fk0_part56_0; iexact H8
    ipureintro; rfl
  · rw [dif_neg h1]
    sl_exec
    sl_step
    isplitl [H1]; · iexact H1
    isplitl [H2]; · iexact H2
    isplitl [H3]; · iexact H3
    isplitl [H4]; · iexact H4
    isplitl [H5]; · iexact H5
    isplitl [H6]; · iexact H6
    isplitl [H7]
    · iexists f
      isplitl [H7]; · iexact H7
      ipureintro; exact hf7
    isplitl [H8]
    · iexists f8; iexact H8
    ipureintro; rfl

/-- ALL TENANTS. -/
theorem tenants_run :
    TenantInv arg1 arg2 arg3 arg4 arg5 arg6 arg7 arg8 c X1 X2 X3 X4 X5 X6 hf y 0 0#32 ⊢
    (wp frame (wpE (defs₀ (F := F)) 𝒱 (c : Thread nD τ) bd) E (Scf.Loop.for k0_t1_loop k0_t1_ok 0#32 (k0_t1_body (F := F) i arg1 harg1 arg2 harg2 arg3 harg3 arg4 harg4 arg5 harg5 arg6 harg6 arg7 harg7 arg8 harg8))
      fun acc => TenantInv arg1 arg2 arg3 arg4 arg5 arg6 arg7 arg8 c X1 X2 X3 X4 X5 X6 hf y k0_t1_loop.trips acc) := by
  refine .trans ?_ (Scf.wp_for _ _ _ _ _ _ k0_t1_ok _ _ (fun k acc => TenantInv arg1 arg2 arg3 arg4 arg5 arg6 arg7 arg8 c X1 X2 X3 X4 X5 X6 hf y k acc)
    (fun k acc => tenant_run i arg1 harg1 arg2 harg2 arg3 harg3 arg4 harg4 arg5 harg5 arg6 harg6 arg7 harg7 arg8 harg8 𝒱 c bd E X1 X2 X3 X4 X5 X6 hf y k acc))
  iintro H
  isplitl [H]; · iexact H
  iintro %_ H
  iexact H

set_option maxHeartbeats 2000000 in
/-- THE BODY on whole buffers: the operands as they were, the result after all fourteen tenants. -/
theorem body_run :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
      ∗ (∃ f, (arg7.view.loc (c : Thread nD τ) ↦[arg7.view.set]{fullShare} f) ∗ ⌜arg7.view.read (Elt F) f = y⌝) ∗ (∃ f, (arg8.view.loc (c : Thread nD τ) ↦[arg8.view.set]{fullShare} f))) : sProp 𝕄G) ⊢
    (wp frame (wpE (defs₀ (F := F)) 𝒱 (c : Thread nD τ) bd) E (cc0_bitdelta (F := F) i arg1 harg1 arg2 harg2 arg3 harg3 arg4 harg4 arg5 harg5 arg6 harg6 arg7 harg7 arg8 harg8)
      fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
        ∗ (∃ f, (arg7.view.loc (c : Thread nD τ) ↦[arg7.view.set]{fullShare} f) ∗ ⌜arg7.view.read (Elt F) f = tenants (arg1.view.read (Elt F) X1) (arg2.view.read (Elt F) X2) (arg3.view.read (Elt F) X3) (arg4.view.read (Elt F) X4) (arg5.view.read (Elt F) X5) (arg6.view.read (Elt F) X6) hf y 14⌝)
        ∗ (∃ f, (arg8.view.loc (c : Thread nD τ) ↦[arg8.view.set]{fullShare} f)))) := by
  rw [cc0_bitdelta_eq_skeleton]
  unfold cc0_bitdelta_skel
  iintro ⟨H1, H2, H3, H4, H5, H6, ⟨%f, H7, %hf7⟩, ⟨%f8, H8⟩⟩
  iapply (exec_cut _ _ _ (tenants_run i arg1 harg1 arg2 harg2 arg3 harg3 arg4 harg4 arg5 harg5 arg6 harg6 arg7 harg7 arg8 harg8 𝒱 c bd E X1 X2 X3 X4 X5 X6 hf y)) $$ [H1 H2 H3 H4 H5 H6 H7 H8]
  · unfold TenantInv
    isplitl [H1]; · iexact H1
    isplitl [H2]; · iexact H2
    isplitl [H3]; · iexact H3
    isplitl [H4]; · iexact H4
    isplitl [H5]; · iexact H5
    isplitl [H6]; · iexact H6
    isplitl [H7]
    · iexists f
      isplitl [H7]; · iexact H7
      ipureintro; exact hf7
    isplitl [H8]
    · iexists f8; iexact H8
    ipureintro; rfl
  iintro %acc H
  unfold TenantInv
  icases H with ⟨H1, H2, H3, H4, H5, H6, H7, H8, %_⟩
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Tenants

end Cert.KernelIdeal.Body
-- ==== Proof.Rows.lean ====
/-
  The row arithmetic of the kernel: where a tenant's chunks start, how many there are, which rows a chunk's mask keeps; that
  every chunk's window fits (`fits`) when the sizes sum to the batch; and one induction (`tenants_rel`) through chunks and
  tenants by which a relation that holds of every value written holds of the whole result.
-/
module

public import proofs.«01_k».proof.Proof.Body
public import Idealize.ShloMosaic.Lib.Pointwise.Reshape

@[expose] public section

set_option maxRecDepth 8192

noncomputable section

namespace Cert.KernelIdeal.Body

open Cert.KernelIdeal Cert.KernelIdeal.Gen
open Idealize.ShloMosaic Idealize.ShloMosaic.TcCoe

variable {F : FTy → Type} [FloatOps F]

/-! ## Words -/

theorem first_toNat (a : BitVec 32) (h : a.toNat ≤ 4608) : (first a).toNat = a.toNat / 16 * 16 := by
  have key : ∀ n : Fin 4609, (first (BitVec.ofNat 32 n.val)).toNat = n.val / 16 * 16 := by decide +kernel
  have := key ⟨a.toNat, by omega⟩
  simpa using this

/-- The number of 256-row chunks that cover `d` rows, as the kernel computes it. -/
def nchunks (d : BitVec 32) : BitVec 32 :=
  have v2335 : BitVec 32 := Scalar.subi (Scalar.addi d 256#32) 1#32
  Scalar.addi 0#32 (Scalar.muli (Scalar.divsi (Scalar.subi (Scalar.select (Scalar.andi
      (Scalar.cmpi .ne (Scalar.subi (Scalar.extui (Scalar.cmpi .sgt v2335 0#32)) (Scalar.extui (Scalar.cmpi .slt v2335 0#32)))
        (Scalar.subi (Scalar.extui (Scalar.cmpi .sgt 256#32 0#32)) (Scalar.extui (Scalar.cmpi .slt 256#32 0#32))))
      (Scalar.cmpi .ne (Scalar.remsi v2335 256#32) 0#32))
    (Scalar.subi (Scalar.divsi v2335 256#32) 1#32) (Scalar.divsi v2335 256#32)) 0#32) 1#32) 1#32)

theorem nchunks_toNat (d : BitVec 32) (h : d.toNat ≤ 4608) : (nchunks d).toNat = (d.toNat + 255) / 256 := by
  have key : ∀ n : Fin 4609, (nchunks (BitVec.ofNat 32 n.val)).toNat = (n.val + 255) / 256 := by decide +kernel
  have := key ⟨d.toNat, by omega⟩
  simpa using this

theorem stop_toNat (a v : BitVec 32) (h : a.toNat + 2 * v.toNat ≤ 4608) :
    (Scalar.addi a (Scalar.muli 2#32 v)).toNat = a.toNat + 2 * v.toNat := by
  show (a + 2#32 * v).toNat = _
  rw [BitVec.toNat_add, BitVec.toNat_mul]
  simp
  omega

theorem toInt_small (a : BitVec 32) (h : a.toNat ≤ 10000) : a.toInt = a.toNat := by
  rw [BitVec.toInt_eq_toNat_cond]; split <;> omega

theorem t2_loop_eq (a v : BitVec 32) :
    k0_t2_loop a v = ⟨0#32, nchunks (Scalar.subi (Scalar.addi a (Scalar.muli 2#32 v)) (first a)), 1#32⟩ := rfl

/-- The last row after a tenant, less the first row of its first chunk. -/
theorem span_toNat (a v : BitVec 32) (h : a.toNat + 2 * v.toNat ≤ 4608) :
    (Scalar.subi (Scalar.addi a (Scalar.muli 2#32 v)) (first a)).toNat = a.toNat + 2 * v.toNat - a.toNat / 16 * 16 := by
  have h1 := stop_toNat a v h
  have h2 := first_toNat a (by omega)
  show (Scalar.addi a (Scalar.muli 2#32 v) - first a).toNat = _
  rw [BitVec.toNat_sub_of_le (by rw [BitVec.le_def, h1, h2]; omega), h1, h2]

theorem t2_trips (a v : BitVec 32) (h : a.toNat + 2 * v.toNat ≤ 4608) :
    (k0_t2_loop a v).trips = (a.toNat + 2 * v.toNat - a.toNat / 16 * 16 + 255) / 256 := by
  have h3 := span_toNat a v h
  have h4 := nchunks_toNat _ (by rw [h3]; omega)
  rw [h3] at h4
  rw [t2_loop_eq]
  show Scf.trips _ _ _ = _
  unfold Scf.trips
  rw [toInt_small (nchunks _) (by omega), h4]
  simp
  omega

/-- The row chunk `k` of a tenant that starts at row `a` is written from. -/
def row (a : BitVec 32) (k : ℕ) : ℕ := min (a.toNat / 16 * 16 + 256 * k) 4352

theorem row_word (a v : BitVec 32) (h : a.toNat + 2 * v.toNat ≤ 4608) (k : Fin (k0_t2_loop a v).trips) :
    (Scalar.minsi (Scalar.addi (first a) (Scalar.muli (Scf.iv 0#32 1#32 k) 256#32)) 4352#32).toNat = row a k.val := by
  have hk : k.val < (a.toNat + 2 * v.toNat - a.toNat / 16 * 16 + 255) / 256 := lt_of_lt_of_eq k.isLt (t2_trips a v h)
  have h2 := first_toNat a (by omega)
  have h5 : (Scalar.addi (first a) (Scalar.muli (Scf.iv 0#32 1#32 k) 256#32)).toNat = a.toNat / 16 * 16 + 256 * k.val := by
    show (first a + (0#32 + BitVec.ofNat 32 k.val * 1#32) * 256#32).toNat = _
    simp [BitVec.toNat_add, BitVec.toNat_mul, h2]
    omega
  show (IntOp.minsi _ _).toNat = _
  unfold IntOp.minsi row
  have h6 : (4352#32 : BitVec 32).toInt = 4352 := rfl
  split
  · rename_i h7
    rw [BitVec.slt_iff_toInt_lt, toInt_small _ (by rw [h5]; omega), h5, h6] at h7
    rw [h5]; omega
  · rename_i h7
    rw [BitVec.slt_iff_toInt_lt, toInt_small _ (by rw [h5]; omega), h5, h6] at h7
    show 4352 = _; omega

theorem mult1_toNat (a v : BitVec 32) (h : a.toNat + 2 * v.toNat ≤ 4608) (k : Fin (k0_t2_loop a v).trips) :
    (k0_mult1 a v k).toNat = row a k.val := row_word a v h k

theorem off10_eq (a v : BitVec 32) (h : a.toNat + 2 * v.toNat ≤ 4608) (k : Fin (k0_t2_loop a v).trips) :
    k0_off10 a v k = ![row a k.val, 0] := by
  rw [← row_word a v h k]; rfl

theorem off9_eq (a v : BitVec 32) (h : a.toNat + 2 * v.toNat ≤ 4608) (k : Fin (k0_t2_loop a v).trips) :
    k0_off9 a v k = ![row a k.val, 0] := by
  rw [← row_word a v h k]; rfl

theorem row_le (a : BitVec 32) (k : ℕ) : row a k ≤ 4352 := by unfold row; omega

theorem row_dvd (a : BitVec 32) (k : ℕ) : 16 ∣ row a k := by unfold row; omega

theorem cond1_iff (a v : BitVec 32) (h : a.toNat + 2 * v.toNat ≤ 4608) : k0_cond1 a v = 1#1 ↔ 0 < v.toNat := by
  have h1 := stop_toNat a v h
  have h2 : a.slt (Scalar.addi a (Scalar.muli 2#32 v)) = decide (0 < v.toNat) := by
    rw [BitVec.slt_eq_decide, toInt_small a (by omega), toInt_small _ (by rw [h1]; omega), h1]
    congr 1; apply propext; omega
  show BitVec.ofBool (Scalar.extui (BitVec.ofBool (a.slt _)) != 0#32) = 1#1 ↔ _
  rw [h2]
  by_cases h3 : 0 < v.toNat
  · simp only [h3, decide_true, iff_true]; rfl
  · simp only [h3, decide_false, iff_false]; decide

/-- A tenant whose rows lie in the batch meets every side condition of its chunks. -/
theorem chk (a v : BitVec 32) (h : a.toNat + 2 * v.toNat ≤ 4608) : k0_chk1 a v := by
  have hno : ∀ k : Fin (k0_t3_loop a v).trips, False := fun k => by
    have h0 := t3_trips a v; have := k.isLt; omega
  refine ⟨fun _ => ?_, fun k _ => ?_, fun k _ => ?_, fun k _ => ?_, fun k _ hinb => ?_, fun _ => ?_, fun k => (hno k).elim, fun k => (hno k).elim,
    fun k => (hno k).elim, fun k => (hno k).elim⟩
  · have ht := t2_trips a v h
    show Scf.OK _ _ _
    refine ⟨?_, ?_⟩
    · exact (by decide : 0 < (1#32 : BitVec 32).toInt)
    · have : Scf.trips (k0_t2_loop a v).lb (k0_t2_loop a v).ub (k0_t2_loop a v).st = (k0_t2_loop a v).trips := rfl
      rw [this, ht, t2_loop_eq]
      simp
      omega
  · rw [mult1_toNat a v h]; exact row_dvd a _
  · rw [off9_eq a v h]
    have := row_le a k.val
    intro i; fin_cases i
    · show row a k.val + 256 ≤ 4608; omega
    · show 0 + 1536 ≤ 1536; omega
  · rw [off10_eq a v h]
    have := row_le a k.val
    intro i; fin_cases i
    · show row a k.val + 256 ≤ 4608; omega
    · show 0 + 1280 ≤ 1280; omega
  · refine .inr ⟨by decide, rfl, .inl ⟨?_, ?_⟩⟩
    · show 2 ∣ k0_off10 a v k 0
      rw [off10_eq a v h]
      have := row_dvd a k.val
      show 2 ∣ row a k.val
      omega
    · show (2 : ℕ) ∣ 256; decide
  · show Scf.OK _ _ _
    have h0 : Scf.trips (k0_t3_loop a v).lb (k0_t3_loop a v).ub (k0_t3_loop a v).st = 0 := t3_trips a v
    refine ⟨(by decide : 0 < (1#32 : BitVec 32).toInt), ?_⟩
    rw [h0]
    have := BitVec.toInt_lt (x := (k0_t3_loop a v).lb)
    simp only [Nat.cast_zero, zero_mul, add_zero]
    omega

/-! ## The sum of the sizes before a tenant -/

/-- The sum of the first `n` sizes. -/
def pre (x1 : Vec F S14 .i32) : ℕ → ℕ
  | 0 => 0
  | n + 1 => pre x1 n + if h : n < k0_t1_loop.trips then (size x1 ⟨n, h⟩).toNat else 0

theorem pre_succ (x1 : Vec F S14 .i32) (k : Fin k0_t1_loop.trips) : pre x1 (k.val + 1) = pre x1 k.val + (size x1 k).toNat := by
  rw [pre.eq_2]; congr 1; exact dif_pos k.isLt

theorem pre_mono (x1 : Vec F S14 .i32) {m n : ℕ} (h : m ≤ n) : pre x1 m ≤ pre x1 n := by
  induction h with
  | refl => exact Nat.le_refl _
  | step _ ih => exact ih.trans (by rw [pre.eq_2]; exact Nat.le_add_right _ _)

/-- The sizes, as naturals, sum to the batch. -/
def Sizes (x1 : Vec F S14 .i32) : Prop := pre x1 14 = 2304

theorem t1_trips : k0_t1_loop.trips = 14 := by decide

theorem start_toNat (x1 : Vec F S14 .i32) (hs : Sizes x1) : ∀ n, n ≤ 14 → (start x1 n).toNat = 2 * pre x1 n := by
  intro n
  induction n with
  | zero => intro _; rfl
  | succ n ih =>
    intro hn
    have hlt : n < k0_t1_loop.trips := by rw [t1_trips]; omega
    have h1 := start_succ x1 ⟨n, hlt⟩
    have h2 := pre_succ x1 ⟨n, hlt⟩
    have h3 : pre x1 (n + 1) ≤ 2304 := hs ▸ pre_mono x1 hn
    have h4 := ih (by omega)
    dsimp only at h1 h2
    rw [h1, stop_toNat _ _ (by rw [h4]; omega), h4, h2]; omega

theorem tenant_rows (x1 : Vec F S14 .i32) (hs : Sizes x1) (k : Fin k0_t1_loop.trips) :
    (start x1 k.val).toNat + 2 * (size x1 k).toNat ≤ 4608 := by
  have hk : k.val < 14 := lt_of_lt_of_eq k.isLt t1_trips
  have h1 := start_toNat x1 hs k.val (by omega)
  have h2 := pre_succ x1 k
  have h3 : pre x1 (k.val + 1) ≤ 2304 := hs ▸ pre_mono x1 (by omega)
  omega

theorem fits (x1 : Vec F S14 .i32) (hs : Sizes x1) : Fits x1 := fun k => chk _ _ (tenant_rows x1 hs k)

/-! ## The payload, element by element -/

/-- The value a chunk computes for its rows, in f32: the base product scaled by channel, plus the scaled product with the signs. -/
def freshF (xs : Vec F S256x1536 .bf16) (x4 : Vec F S1536x1280 .fp8e4m3) (x8 : Vec F S1536x1280 .bf16) (x5 : Vec F S1x1280 .f32)
    (sc : Elt F .f32) : FVec F S256x1280 .f32 :=
  have v2366 : FVec F S256x1536 .bf16 := shapeCast S256x1536 xs shapeCasts_S256x1536_S256x1536
  have v2368 : FVec F S256x1280 .f32 := matmul dot_S256x1536_S1536x1280_S256x1280_1_0_0_1_n_n none v2366 x4 (constant S256x1280 .f32 0x00000000#32)
  have v2370 : FVec F S256x1280 .f32 := matmul dot_S256x1536_S1536x1280_S256x1280_1_0_0_1_n_n none v2366 x8 (constant S256x1280 .f32 0x00000000#32)
  have v2373 : FVec F S256x1280 .f32 := broadcastTo S256x1280 (shapeCast S1x1280 x5 shapeCasts_S1x1280_S1x1280) broadcasts_S1x1280_S256x1280
  addf (mulf v2368 v2373) (mulf (broadcast S256x1280 sc) v2370)

/-- The same in bf16. -/
def fresh (xs : Vec F S256x1536 .bf16) (x4 : Vec F S1536x1280 .fp8e4m3) (x8 : Vec F S1536x1280 .bf16) (x5 : Vec F S1x1280 .f32)
    (sc : Elt F .f32) : FVec F S256x1280 .bf16 := truncf .bf16 (freshF xs x4 x8 x5 sc) bitsLt_bf16_f32

/-- A row the mask leaves out: what was there, in f32, -/
def keptF (old : Vec F S256x1280 .bf16) : FVec F S256x1280 .f32 :=
  extf .f32 (shapeCast S256x1280 old shapeCasts_S256x1280_S256x1280 : FVec F S256x1280 .bf16) bitsLt_bf16_f32

/-- and back. -/
def kept (old : Vec F S256x1280 .bf16) : FVec F S256x1280 .bf16 := truncf .bf16 (keptF old) bitsLt_bf16_f32

/-- The word of the row chunk `k` starts at. -/
def roww (a v : BitVec 32) (k : Fin (k0_t2_loop a v).trips) : BitVec 32 :=
  Scalar.minsi (Scalar.addi (first a) (Scalar.muli (Scf.iv 0#32 1#32 k) 256#32)) 4352#32

/-- The mask of chunk `k`: the tenant's rows. -/
def mask (a v : BitVec 32) (k : Fin (k0_t2_loop a v).trips) : IVec S256x1280 1 :=
  andi (cmpi .sge (addi (broadcast S256x1280 (roww a v k)) (iota .tc S256x1280 32 [0] iota_S256x1280_d0_w32)) (broadcast S256x1280 a))
    (cmpi .slt (addi (broadcast S256x1280 (roww a v k)) (iota .tc S256x1280 32 [0] iota_S256x1280_d0_w32))
      (broadcast S256x1280 (Scalar.addi a (Scalar.muli 2#32 v))))

theorem mask_apply (a v : BitVec 32) (h : a.toNat + 2 * v.toNat ≤ 4608) (k : Fin (k0_t2_loop a v).trips) (j : S256x1280.Idx) :
    mask a v k j = BitVec.ofBool (decide (a.toNat ≤ row a k.val + (j 0).val ∧ row a k.val + (j 0).val < a.toNat + 2 * v.toNat)) := by
  have hr : (roww a v k).toNat = _ := row_word a v h k
  have hst := stop_toNat a v h
  have hrl := row_le a k.val
  have hj : (j 0).val < 256 := (j 0).isLt
  have hi : iota .tc S256x1280 32 [0] iota_S256x1280_d0_w32 j = BitVec.ofNat 32 (j 0).val := by
    show BitVec.ofNat 32 (0 * 256 + (j 0).val) = _
    rw [Nat.zero_mul, Nat.zero_add]
  have hv : (roww a v k + BitVec.ofNat 32 (j 0).val).toNat = row a k.val + (j 0).val := by
    rw [BitVec.toNat_add, hr]; simp; omega
  show BitVec.ofBool (BitVec.sle a (roww a v k + iota .tc S256x1280 32 [0] iota_S256x1280_d0_w32 j))
    &&& BitVec.ofBool (BitVec.slt (roww a v k + iota .tc S256x1280 32 [0] iota_S256x1280_d0_w32 j) (Scalar.addi a (Scalar.muli 2#32 v))) = _
  rw [hi, BitVec.sle_eq_decide, BitVec.slt_eq_decide, toInt_small a (by omega), toInt_small _ (by rw [hv]; omega),
    toInt_small (Scalar.addi a _) (by rw [hst]; omega), hv, hst, BitVec.ofBool_and_ofBool, Bool.decide_and]
  congr 2
  · apply decide_eq_decide.mpr; omega
  · apply decide_eq_decide.mpr; omega

theorem pay1_apply (a v : BitVec 32) (h : a.toNat + 2 * v.toNat ≤ 4608) (sc : Elt F .f32) (k : Fin (k0_t2_loop a v).trips)
    (xs : Vec F S256x1536 .bf16) (x4 : Vec F S1536x1280 .fp8e4m3) (x8 : Vec F S1536x1280 .bf16) (x5 : Vec F S1x1280 .f32)
    (old : Vec F S256x1280 .bf16) (j : S256x1280.Idx) :
    k0_pay1 a v (first a) sc k xs x4 x8 x5 old j
      = if a.toNat ≤ row a k.val + (j 0).val ∧ row a k.val + (j 0).val < a.toNat + 2 * v.toNat then fresh xs x4 x8 x5 sc j else kept old j := by
  have hp : k0_pay1 a v (first a) sc k xs x4 x8 x5 old j
      = FloatOps.truncf .bf16 bitsLt_bf16_f32 (Scalar.select (mask a v k j) (freshF xs x4 x8 x5 sc j) (keptF old j)) := rfl
  rw [hp, mask_apply a v h k j]
  by_cases hc : a.toNat ≤ row a k.val + (j 0).val ∧ row a k.val + (j 0).val < a.toNat + 2 * v.toNat
  · rw [if_pos hc, decide_eq_true hc]; rfl
  · rw [if_neg hc, decide_eq_false hc]; rfl

/-! ## One induction through chunks and tenants -/

section Rel

variable (S : S4608x1280.Idx → Elt F .bf16 → Elt F .bf16 → Prop)

/-- A relation of an element to an element that holds of what a chunk computes on the rows of its mask, and survives f32 and
    back, holds after the chunk wherever it held, and on the rows of its mask. -/
theorem chunk_rel (x3 : Vec F S4608x1536 .bf16) (x4 : Vec F S1536x1280 .fp8e4m3) (x5 : Vec F S1x1280 .f32) (x8 : Vec F S1536x1280 .bf16)
    (a v : BitVec 32) (sc : Elt F .f32) (hw : k0_chk1 a v) (h1 : k0_cond1 a v = 1#1) (h : a.toNat + 2 * v.toNat ≤ 4608)
    (hnew : ∀ (k : Fin (k0_t2_loop a v).trips) (y : S4608x1280.Idx) (j : S256x1280.Idx), (y 0).val = row a k.val + (j 0).val → (y 1).val = (j 1).val →
      a.toNat ≤ (y 0).val → (y 0).val < a.toNat + 2 * v.toNat →
      S y (fresh (View.ld x3 (Rect.unit (s := S4608x1536) (k0_off9 a v k) S256x1536.size (k0_off9_inb a v hw k h1))) x4 x8 x5 sc j)
        (fresh (View.ld x3 (Rect.unit (s := S4608x1536) (k0_off9 a v k) S256x1536.size (k0_off9_inb a v hw k h1))) x4 x8 x5 sc j))
    (hkeep : ∀ y p q, S y p q → S y (FloatOps.truncf .bf16 bitsLt_bf16_f32 (FloatOps.extf .f32 bitsLt_bf16_f32 p))
      (FloatOps.truncf .bf16 bitsLt_bf16_f32 (FloatOps.extf .f32 bitsLt_bf16_f32 q)))
    (k : Fin (k0_t2_loop a v).trips) (A B : Vec F S4608x1280 .bf16) (y : S4608x1280.Idx)
    (hy : S y (A y) (B y) ∨ (a.toNat ≤ (y 0).val ∧ (y 0).val < a.toNat + 2 * v.toNat ∧ row a k.val ≤ (y 0).val ∧ (y 0).val < row a k.val + 256)) :
    S y (chunk x3 x4 x5 x8 a v sc hw h1 k A y) (chunk x3 x4 x5 x8 a v sc hw h1 k B y) := by
  have ho := off10_eq a v h k
  unfold chunk VecWindow.put
  by_cases hin : ∀ i, k0_off10 a v k i ≤ (y i).val ∧ (y i).val < k0_off10 a v k i + S256x1280.size i
  · rw [dif_pos hin, dif_pos hin, pay1_apply a v h, pay1_apply a v h]
    have h0 : row a k.val ≤ (y 0).val := by have := (hin 0).1; rw [ho] at this; exact this
    have hj0 : (y 0).val = row a k.val + ((Rect.unitLocal (s := S4608x1280) (off := k0_off10 a v k) (size := S256x1280.size) y hin) 0).val := by
      rw [Rect.unitLocal_val, ho]
      show (y 0).val = row a k.val + ((y 0).val - row a k.val); omega
    have hj1 : (y 1).val = ((Rect.unitLocal (s := S4608x1280) (off := k0_off10 a v k) (size := S256x1280.size) y hin) 1).val := by
      rw [Rect.unitLocal_val, ho]
      show (y 1).val = (y 1).val - 0; omega
    generalize hj : Rect.unitLocal (s := S4608x1280) (off := k0_off10 a v k) (size := S256x1280.size) y hin = j at hj0 hj1
    by_cases hc : a.toNat ≤ row a k.val + (j 0).val ∧ row a k.val + (j 0).val < a.toNat + 2 * v.toNat
    · rw [if_pos hc, if_pos hc]
      exact hnew k y j hj0 hj1 (by omega) (by omega)
    · rw [if_neg hc, if_neg hc]
      have hS : S y (A y) (B y) := hy.resolve_right (by omega)
      have hold : ∀ C : Vec F S4608x1280 .bf16, kept (View.ld C (Rect.unit (s := S4608x1280) (k0_off10 a v k) S256x1280.size (k0_off10_inb a v hw k h1))) j
          = FloatOps.truncf .bf16 bitsLt_bf16_f32 (FloatOps.extf .f32 bitsLt_bf16_f32 (C y)) := fun C => by
        unfold kept keptF
        rw [shapeCast_id]
        show FloatOps.truncf .bf16 bitsLt_bf16_f32 (FloatOps.extf .f32 bitsLt_bf16_f32
          (C ((Rect.unit (s := S4608x1280) (k0_off10 a v k) S256x1280.size (k0_off10_inb a v hw k h1)).emb j))) = _
        congr 3
        funext i
        apply Fin.ext
        show k0_off10 a v k i + 1 * (j i).val = (y i).val
        rw [ho]
        fin_cases i
        · show row a k.val + 1 * (j 0).val = (y 0).val; omega
        · show 0 + 1 * (j 1).val = (y 1).val; omega
      rw [hold, hold]
      exact hkeep y _ _ hS
  · rw [dif_neg hin, dif_neg hin]
    refine hy.resolve_right fun hr => hin fun i => ?_
    rw [ho]
    have hy1 : (y 1).val < 1280 := (y 1).isLt
    fin_cases i
    · show row a k.val ≤ (y 0).val ∧ (y 0).val < row a k.val + 256; omega
    · show 0 ≤ (y 1).val ∧ (y 1).val < 0 + 1280; omega

/-- The same through the first `n` chunks of a tenant. -/
theorem chunks_rel (x3 : Vec F S4608x1536 .bf16) (x4 : Vec F S1536x1280 .fp8e4m3) (x5 : Vec F S1x1280 .f32) (x8 : Vec F S1536x1280 .bf16)
    (a v : BitVec 32) (sc : Elt F .f32) (hw : k0_chk1 a v) (h1 : k0_cond1 a v = 1#1) (h : a.toNat + 2 * v.toNat ≤ 4608)
    (hnew : ∀ (k : Fin (k0_t2_loop a v).trips) (y : S4608x1280.Idx) (j : S256x1280.Idx), (y 0).val = row a k.val + (j 0).val → (y 1).val = (j 1).val →
      a.toNat ≤ (y 0).val → (y 0).val < a.toNat + 2 * v.toNat →
      S y (fresh (View.ld x3 (Rect.unit (s := S4608x1536) (k0_off9 a v k) S256x1536.size (k0_off9_inb a v hw k h1))) x4 x8 x5 sc j)
        (fresh (View.ld x3 (Rect.unit (s := S4608x1536) (k0_off9 a v k) S256x1536.size (k0_off9_inb a v hw k h1))) x4 x8 x5 sc j))
    (hkeep : ∀ y p q, S y p q → S y (FloatOps.truncf .bf16 bitsLt_bf16_f32 (FloatOps.extf .f32 bitsLt_bf16_f32 p))
      (FloatOps.truncf .bf16 bitsLt_bf16_f32 (FloatOps.extf .f32 bitsLt_bf16_f32 q)))
    (A B : Vec F S4608x1280 .bf16) (n : ℕ) (hn : n ≤ (k0_t2_loop a v).trips) (y : S4608x1280.Idx)
    (hy : S y (A y) (B y) ∨ (a.toNat ≤ (y 0).val ∧ (y 0).val < a.toNat + 2 * v.toNat ∧ (y 0).val < a.toNat / 16 * 16 + 256 * n)) :
    S y (chunks x3 x4 x5 x8 a v sc hw h1 A n y) (chunks x3 x4 x5 x8 a v sc hw h1 B n y) := by
  induction n with
  | zero => exact hy.resolve_right (by omega)
  | succ n ih =>
    have hs := fun C => chunks_succ x3 x4 x5 x8 a v sc hw h1 C ⟨n, hn⟩
    dsimp only at hs
    rw [hs, hs]
    refine chunk_rel S x3 x4 x5 x8 a v sc hw h1 h hnew hkeep ⟨n, hn⟩ _ _ y ?_
    have hy0 : (y 0).val < 4608 := (y 0).isLt
    by_cases hlt : S y (A y) (B y) ∨ (y 0).val < a.toNat / 16 * 16 + 256 * n
    · refine .inl (ih (by omega) (hlt.elim .inl fun h2 => hy.elim .inl fun h3 => .inr ⟨h3.1, h3.2.1, h2⟩))
    · rw [not_or] at hlt
      have h3 := hy.resolve_left hlt.1
      refine .inr ⟨h3.1, h3.2.1, ?_, ?_⟩
      · show row a n ≤ _; unfold row; omega
      · show _ < row a n + 256; unfold row; omega

/-- The same through the first `n` tenants: on all rows before tenant `n`'s. -/
theorem tenants_rel (x1 : Vec F S14 .i32) (x2 : Vec F S14 .f32) (x3 : Vec F S4608x1536 .bf16) (x4 : Vec F S1536x1280 .fp8e4m3) (x5 : Vec F S1x1280 .f32)
    (x6 : Vec F S14x192x1280 .i8) (hf : Fits x1) (hsz : Sizes x1)
    (hnew : ∀ (t : Fin k0_t1_loop.trips) (h1 : k0_cond1 (start x1 t.val) (size x1 t) = 1#1) (k : Fin (k0_t2_loop (start x1 t.val) (size x1 t)).trips)
      (y : S4608x1280.Idx) (j : S256x1280.Idx), (y 0).val = row (start x1 t.val) k.val + (j 0).val → (y 1).val = (j 1).val →
      (start x1 t.val).toNat ≤ (y 0).val → (y 0).val < (start x1 t.val).toNat + 2 * (size x1 t).toNat →
      S y (fresh (View.ld x3 (Rect.unit (s := S4608x1536) (k0_off9 (start x1 t.val) (size x1 t) k) S256x1536.size (k0_off9_inb _ _ (hf t) k h1)))
          x4 (signs t x6) x5 (scale x2 t) j)
        (fresh (View.ld x3 (Rect.unit (s := S4608x1536) (k0_off9 (start x1 t.val) (size x1 t) k) S256x1536.size (k0_off9_inb _ _ (hf t) k h1)))
          x4 (signs t x6) x5 (scale x2 t) j))
    (hkeep : ∀ y p q, S y p q → S y (FloatOps.truncf .bf16 bitsLt_bf16_f32 (FloatOps.extf .f32 bitsLt_bf16_f32 p))
      (FloatOps.truncf .bf16 bitsLt_bf16_f32 (FloatOps.extf .f32 bitsLt_bf16_f32 q)))
    (A B : Vec F S4608x1280 .bf16) (n : ℕ) (hn : n ≤ 14) (y : S4608x1280.Idx) (hy : (y 0).val < 2 * pre x1 n) :
    S y (tenants x1 x2 x3 x4 x5 x6 hf A n y) (tenants x1 x2 x3 x4 x5 x6 hf B n y) := by
  induction n with
  | zero => exact absurd hy (Nat.not_lt_zero _)
  | succ n ih =>
    have hlt : n < k0_t1_loop.trips := by rw [t1_trips]; omega
    have hs := fun C => tenants_succ x1 x2 x3 x4 x5 x6 hf C ⟨n, hlt⟩
    have hp := pre_succ x1 ⟨n, hlt⟩
    have hst := start_toNat x1 hsz n (by omega)
    have hr := tenant_rows x1 hsz ⟨n, hlt⟩
    dsimp only at hs hp hr
    rw [hs, hs]
    unfold tenant
    dsimp only
    by_cases h1 : k0_cond1 (start x1 n) (size x1 ⟨n, hlt⟩) = 1#1
    · rw [dif_pos h1, dif_pos h1]
      refine chunks_rel S x3 x4 x5 _ _ _ _ _ h1 hr (fun k y j => hnew ⟨n, hlt⟩ h1 k y j) hkeep _ _ _ le_rfl y ?_
      by_cases hy' : (y 0).val < 2 * pre x1 n
      · exact .inl (ih (by omega) hy')
      · refine .inr ⟨by omega, by omega, ?_⟩
        have := t2_trips _ _ hr
        rw [this]
        omega
    · rw [dif_neg h1, dif_neg h1]
      have h0 : ¬ 0 < (size x1 ⟨n, hlt⟩).toNat := fun h => h1 ((cond1_iff _ _ hr).2 h)
      exact ih (by omega) (by omega)

end Rel

/-- The whole result does not depend on what the buffer held before: every row is some tenant's. -/
theorem tenants_indep (x1 : Vec F S14 .i32) (x2 : Vec F S14 .f32) (x3 : Vec F S4608x1536 .bf16) (x4 : Vec F S1536x1280 .fp8e4m3) (x5 : Vec F S1x1280 .f32)
    (x6 : Vec F S14x192x1280 .i8) (hf : Fits x1) (hsz : Sizes x1) (A B : Vec F S4608x1280 .bf16) :
    tenants x1 x2 x3 x4 x5 x6 hf A 14 = tenants x1 x2 x3 x4 x5 x6 hf B 14 := by
  funext y
  have hy0 : (y 0).val < 4608 := (y 0).isLt
  exact tenants_rel (fun _ p q => p = q) x1 x2 x3 x4 x5 x6 hf hsz (fun _ _ _ _ _ _ _ _ _ => rfl) (fun _ _ _ h => by rw [h]) A B 14 le_rfl y
    (by rw [hsz]; omega)

end Cert.KernelIdeal.Body
-- ==== Proof.Run.lean ====
/-
  The run of the whole program around the kernel: the proof data (every operand's block left in place, the result's block what
  the tenants write), the body's obligation at every grid point, and the run of @main — for sizes that sum to the batch.
-/
module

public import proofs.«01_k».proof.Proof.Rows
public import proofs.«01_k».proof.Proof.Gen.KernelIdeal.Frame
public import Idealize.ShloMosaic.Lib.Claim

@[expose] public section

set_option maxRecDepth 8192

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on memrefs at given contents -/

set_option maxHeartbeats 800000 in
/-- The body from the operands' contents, anything in the result's memref and in the scratch: the operands unchanged, the
    result's memref at what the tenants write. -/
theorem sound_kernel (c : Dev nD) (E : Set ℕ) (i : grid0.Coords) (arg1 : Memref sig .tc .smem S14 .i32) (harg1 : arg1.IsWhole) (arg2 : Memref sig .tc .smem S14 .f32) (harg2 : arg2.IsWhole) (arg3 : Memref sig .tc .vmem S4608x1536 .bf16) (harg3 : arg3.IsWhole) (arg4 : Memref sig .tc .vmem S1536x1280 .fp8e4m3) (harg4 : arg4.IsWhole) (arg5 : Memref sig .tc .vmem S1x1280 .f32) (harg5 : arg5.IsWhole) (arg6 : Memref sig .tc .vmem S14x192x1280 .i8) (harg6 : arg6.IsWhole) (arg7 : Memref sig .tc .vmem S4608x1280 .bf16) (harg7 : arg7.IsWhole) (arg8 : Memref sig .tc .vmem S1536x1280 .bf16) (harg8 : arg8.IsWhole)
    (x1 : Vec F S14 .i32) (x2 : Vec F S14 .f32) (x3 : Vec F S4608x1536 .bf16) (x4 : Vec F S1536x1280 .fp8e4m3) (x5 : Vec F S1x1280 .f32)
    (x6 : Vec F S14x192x1280 .i8) (hsz : Sizes x1) (d7 : Vec F S4608x1280 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (tenants x1 x2 x3 x4 x5 x6 (fits x1 hsz) d7 14)
            ∗ (∃ d, owns (c : Thread nD τ) arg8 fullShare d)) -∗ K ⟨⟩))
      ⊢ wp frame (wpE (defs₀ (F := F)) Variants.none c none) E (cc0_bitdelta i arg1 harg1 arg2 harg2 arg3 harg3 arg4 harg4 arg5 harg5 arg6 harg6 arg7 harg7 arg8 harg8) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d, %f7, %hf7, H7⟩, ⟨%d8, %f8, -, H8⟩, Hk⟩
  subst hf1 hf2 hf3 hf4 hf5 hf6
  iapply (exec_cut_last _ _ _ (body_run i arg1 harg1 arg2 harg2 arg3 harg3 arg4 harg4 arg5 harg5 arg6 harg6 arg7 harg7 arg8 harg8 Variants.none c none E f1 f2 f3 f4 f5 f6 (fits _ hsz) d)) $$ [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]
    · iexists f7
      isplitl [H7]; · iexact H7
      ipureintro; exact hf7
    iexists f8; iexact H8
  iintro %_ H
  icases H with ⟨H1, H2, H3, H4, H5, H6, ⟨%g7, H7, %hg7⟩, ⟨%g8, H8⟩⟩
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists g7; isplitr
    · ipureintro; rw [hg7]; exact tenants_indep _ _ _ _ _ _ _ hsz _ _
    iexact H7
  iexists _, g8; isplitr; · ipureintro; rfl
  iexact H8

/-! ## The proof data -/

variable (m : (ℓ : Loc nD τ sig) → Buf (Elt F) ℓ) (ρ : Dev nD → PrngReg)

/-- At every point, the sizes the kernel reads sum to the batch. -/
def SizesOK : Prop := ∀ (c : Dev nD) (t : Fin cfg0.N), Sizes (F := F) (iblk m c 0 t)

variable (hP : SizesOK m)

/-- What the body leaves in the result's buffer at point `t`. -/
def out (c : Dev nD) (t : Fin cfg0.N) : Vec F S4608x1280 .bf16 :=
  tenants (iblk m c 0 t) (iblk m c 1 t) (iblk m c 2 t) (iblk m c 3 t) (iblk m c 4 t) (iblk m c 5 t) (fits _ (hP c t))
    (fun _ => (FloatOps.ofBits .bf16 0#16)) 14

/-- The proof data: the arrays as the region finds them; after the body each operand's buffer at its block and the result's at `out`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out m hP c t
  Φ _ := Pipeline.ΦA spec0 c
  q _ := fullShare
  owed _ := 0

theorem A_eq (c : Dev nD) (w : Fin cfg0.W) : (dats m hP 0 c).A w = V m c (Pipeline.arrRef spec0 w) := by
  dsimp only [dats]

theorem after0_0 (c : Dev nD) (t : Fin cfg0.N) : (dats m hP 0 c).after 0 t = iblk m c 0 t := by dsimp only [dats]
theorem after0_1 (c : Dev nD) (t : Fin cfg0.N) : (dats m hP 0 c).after 1 t = iblk m c 1 t := by dsimp only [dats]
theorem after0_2 (c : Dev nD) (t : Fin cfg0.N) : (dats m hP 0 c).after 2 t = iblk m c 2 t := by dsimp only [dats]
theorem after0_3 (c : Dev nD) (t : Fin cfg0.N) : (dats m hP 0 c).after 3 t = iblk m c 3 t := by dsimp only [dats]
theorem after0_4 (c : Dev nD) (t : Fin cfg0.N) : (dats m hP 0 c).after 4 t = iblk m c 4 t := by dsimp only [dats]
theorem after0_5 (c : Dev nD) (t : Fin cfg0.N) : (dats m hP 0 c).after 5 t = iblk m c 5 t := by dsimp only [dats]
theorem after0_6 (c : Dev nD) (t : Fin cfg0.N) : (dats m hP 0 c).after 6 t = out m hP c t := by dsimp only [dats]
theorem before0_0 (c : Dev nD) (t : Fin cfg0.N) (d) : (dats m hP 0 c).before 0 t d = iblk m c 0 t :=
  before0_0_of m (dats m hP 0 c) (A_eq m hP c 0) (after0_0 m hP c) t d
theorem before0_1 (c : Dev nD) (t : Fin cfg0.N) (d) : (dats m hP 0 c).before 1 t d = iblk m c 1 t :=
  before0_1_of m (dats m hP 0 c) (A_eq m hP c 1) (after0_1 m hP c) t d
theorem before0_2 (c : Dev nD) (t : Fin cfg0.N) (d) : (dats m hP 0 c).before 2 t d = iblk m c 2 t :=
  before0_2_of m (dats m hP 0 c) (A_eq m hP c 2) (after0_2 m hP c) t d
theorem before0_3 (c : Dev nD) (t : Fin cfg0.N) (d) : (dats m hP 0 c).before 3 t d = iblk m c 3 t :=
  before0_3_of m (dats m hP 0 c) (A_eq m hP c 3) (after0_3 m hP c) t d
theorem before0_4 (c : Dev nD) (t : Fin cfg0.N) (d) : (dats m hP 0 c).before 4 t d = iblk m c 4 t :=
  before0_4_of m (dats m hP 0 c) (A_eq m hP c 4) (after0_4 m hP c) t d
theorem before0_5 (c : Dev nD) (t : Fin cfg0.N) (d) : (dats m hP 0 c).before 5 t d = iblk m c 5 t :=
  before0_5_of m (dats m hP 0 c) (A_eq m hP c 5) (after0_5 m hP c) t d

/-- What the body is given at point `t`, -/
def bodyPre (c : Dev nD) (t : Fin cfg0.N) : sProp 𝕄 :=
  iprop((dats m hP 0 c).Φ t.castSucc ∗ (dats m hP 0 c).owesAt () t.castSucc
        ∗ (∃ d, owns (c : Thread nD τ) (st0_0 t) fullShare ((dats m hP 0 c).before 0 t d))
    ∗ (∃ d, owns (c : Thread nD τ) (st0_1 t) fullShare ((dats m hP 0 c).before 1 t d))
    ∗ (∃ d, owns (c : Thread nD τ) (st0_2 t) fullShare ((dats m hP 0 c).before 2 t d))
    ∗ (∃ d, owns (c : Thread nD τ) (st0_3 t) fullShare ((dats m hP 0 c).before 3 t d))
    ∗ (∃ d, owns (c : Thread nD τ) (st0_4 t) fullShare ((dats m hP 0 c).before 4 t d))
    ∗ (∃ d, owns (c : Thread nD τ) (st0_5 t) fullShare ((dats m hP 0 c).before 5 t d))
    ∗ (∃ d, owns (c : Thread nD τ) (st0_6 t) fullShare ((dats m hP 0 c).before 6 t d)))

/-- and what it returns. -/
def bodyPost (c : Dev nD) (t : Fin cfg0.N) : sProp 𝕄 :=
  iprop((dats m hP 0 c).Φ t.succ ∗ (dats m hP 0 c).owesAt () t.succ
        ∗ owns (c : Thread nD τ) (st0_0 t) fullShare ((dats m hP 0 c).after 0 t)
    ∗ owns (c : Thread nD τ) (st0_1 t) fullShare ((dats m hP 0 c).after 1 t)
    ∗ owns (c : Thread nD τ) (st0_2 t) fullShare ((dats m hP 0 c).after 2 t)
    ∗ owns (c : Thread nD τ) (st0_3 t) fullShare ((dats m hP 0 c).after 3 t)
    ∗ owns (c : Thread nD τ) (st0_4 t) fullShare ((dats m hP 0 c).after 4 t)
    ∗ owns (c : Thread nD τ) (st0_5 t) fullShare ((dats m hP 0 c).after 5 t)
    ∗ owns (c : Thread nD τ) (st0_6 t) fullShare ((dats m hP 0 c).after 6 t))

/-- The scratch's points-to is its memref owned whole, one way -/
theorem scratch_in (c : Dev nD) (f : Buf (Elt F) ((c : Thread nD τ).loc cc0_scratch0)) :
    ((((c : Thread nD τ).loc cc0_scratch0) ↦{fullShare} f : sProp 𝕄)) ⊢ iprop(∃ d, owns (c : Thread nD τ) (Memref.whole cc0_scratch0) fullShare d) := by
  iintro H
  iexists f
  rw [owns_whole]
  iexact H

/-- and the other. -/
theorem scratch_out (c : Dev nD) : iprop(∃ d, owns (c : Thread nD τ) (Memref.whole cc0_scratch0) fullShare d)
    ⊢ (iprop(∃ f : Buf (Elt F) ((c : Thread nD τ).loc cc0_scratch0), ((c : Thread nD τ).loc cc0_scratch0) ↦{fullShare} f) : sProp 𝕄) := by
  simp only [owns_whole]
  exact .rfl

set_option maxHeartbeats 800000 in
/-- The body at any point: the operands' memrefs hold their blocks, the scratch is anything. -/
theorem sound_body (c : Dev nD) (t : Fin cfg0.N) :
    bodyPre m hP c t ⊢ wp frame (wpE (defs₀ (F := F)) Variants.none c none) Set.univ (bodyAt0 t) (fun _ => bodyPost m hP c t) := by
  unfold bodyPre bodyPost bodyAt0
  simp only [before0_0, before0_1, before0_2, before0_3, before0_4, before0_5]
  rw [show (dats m hP 0 c).Φ t.succ = (dats m hP 0 c).Φ t.castSucc from rfl,
    show (dats m hP 0 c).owesAt () t.succ = (dats m hP 0 c).owesAt () t.castSucc from rfl,
    after0_0, after0_1, after0_2, after0_3, after0_4, after0_5, after0_6,
    show (dats m hP 0 c).Φ t.castSucc = Pipeline.ΦA spec0 c from rfl]
  unfold Pipeline.ΦA
  rw [scopedRest0_eq]
  iintro ⟨⟨⟨%fs, Hs⟩, Hr⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ _ _ (iblk m c 0 t) (iblk m c 1 t) (iblk m c 2 t) (iblk m c 3 t) (iblk m c 4 t) (iblk m c 5 t)
    (hP c t) (fun _ => FloatOps.ofBits .bf16 0#16) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [Hs]
  · iapply (scratch_in c fs); iexact Hs
  iintro ⟨H0, H1, H2, H3, H4, H5, H6, Hs⟩
  isplitl [Hs Hr]
  · isplitl [Hs]
    · iapply (scratch_out c); iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m hP 0 c) (defs₀ (F := F)) Variants.none () Set.univ := fun t => by
  rw [bigSep_W0, bigSep_W0, defs₀_row]
  exact triple_restated (sound_body m hP c t) rfl .rfl fun _ => .rfl

/-! ## The run -/

set_option backward.isDefEq.respectTransparency.types false in
set_option maxHeartbeats 800000 in
/-- THE RUN of @main: every weakly fair execution terminates, every final state has every array of the pipeline at what the
    proof data give, every other buffer as the lines after the region leave it, and every semaphore counter at zero. -/
theorem run_main_quiescent : θ_run defs (onTc (τ := τ) (main (F := F))) (s₀ m ρ) (fun r => (Pipeline.FramePost cfgs (dats m hP) 0 (Pipeline.afterTail₀ cfgs (dats m hP) 0 (V0 m) [hostOps1])) r ∧ r.2.sem = fun _ => 0) :=
  Pipeline.θ_run_frame_around (Q' := _) cfgs (dats m hP) (0 : Fin 1) launch0 defs₀ Variants.none m ρ main
    (hbody := fun c => (body_obligation m hP c).loose) (hshare := fun c => (dats m hP 0 c).share_full fun _ => rfl)
    (howed := fun _ _ => rfl) (V₀ := V0 m) (opss := [hostOps1]) (hsub := sfx_sub) (hfresh := sfx_fresh) (hkeep := sfx_keeps)
    (hmain := hmain m Variants.none) (hA := A_eq m hP) (hΦ := fun _ _ => rfl)

include hP in
/-- THE FRAME: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  have h := run_main_quiescent m ρ hP
  exact θ_run_and (frame_of m ρ (dats m hP) (A_eq m hP) ((θ_run defs _ _).mono (fun _ h => h.1) h)) ((θ_run defs _ _).mono (fun _ h => h.2) h)

end Cert.KernelIdeal.Body
-- ==== Proof.Pre.lean ====
/-
  What the precondition says: printed as a function of the arguments, it is all ones exactly where every size is at least 0 and at
  most 2304 and the sizes sum to 2304.
-/
module

public import proofs.«01_k».proof.Pre_sizes_partition_batch
public import Idealize.ShloMosaic.Lib.Routing.Ops

@[expose] public section

noncomputable section

namespace Cert.Sizes

open Idealize.ShloMosaic Idealize.ShloMosaic.ValueIdx Idealize.ShloMosaic.Routing
open Cert.Pre_sizes_partition_batch (S14 S_)

/-- Tenant `i`'s size as a number, zero past the last tenant. -/
def at' (x : IVec S14 32) (i : ℕ) : ℕ := if h : i < 14 then (x (ix1 ⟨i, h⟩)).toNat else 0

/-- The number of requests of the first `n` tenants. -/
def upto (x : IVec S14 32) (n : ℕ) : ℕ := ((List.range n).map (at' x)).sum

theorem upto_succ (x : IVec S14 32) (n : ℕ) : upto x (n + 1) = upto x n + at' x n := by
  unfold upto
  rw [List.range_succ, List.map_append, List.sum_append, List.map_singleton, List.sum_singleton]

theorem upto_zero (x : IVec S14 32) : upto x 0 = 0 := rfl

theorem upto_mono (x : IVec S14 32) {a b : ℕ} (h : a ≤ b) : upto x a ≤ upto x b := by
  induction h with
  | refl => exact Nat.le_refl _
  | step _ ih => exact ih.trans (by rw [upto_succ]; exact Nat.le_add_right _ _)

theorem at'_word (x : IVec S14 32) (i : Fin 14) : x (ix1 i) = BitVec.ofNat 32 (at' x i.val) := by
  unfold at'; rw [dif_pos i.isLt]; simp

theorem upto_le (x : IVec S14 32) (b : ℕ) (h : ∀ i, at' x i ≤ b) (n : ℕ) : upto x n ≤ n * b := by
  induction n with
  | zero => simp [upto]
  | succ n ih => rw [upto_succ, Nat.succ_mul]; exact Nat.add_le_add ih (h n)

theorem bit_and {a b : BitVec 1} (h : IntOp.andi a b = 1#1) : a = 1#1 ∧ b = 1#1 := by
  revert a b; decide

/-- A word from 0 to 2304 as a signed number is at most 2304 as a natural. -/
theorem word_le {a : BitVec 32} (h1 : IntOp.cmpi .sge a 0#32 = 1#1) (h2 : IntOp.cmpi .sle a 2304#32 = 1#1) : a.toNat ≤ 2304 := by
  have h1' : BitVec.sle 0#32 a = true := by
    have h : BitVec.ofBool (BitVec.sle 0#32 a) = 1#1 := h1
    revert h; cases BitVec.sle 0#32 a <;> simp
  have h2' : BitVec.sle a 2304#32 = true := by
    have h : BitVec.ofBool (BitVec.sle a 2304#32) = 1#1 := h2
    revert h; cases BitVec.sle a 2304#32 <;> simp
  rw [BitVec.sle_iff_toInt_le] at h1' h2'
  have e1 : (0#32 : BitVec 32).toInt = 0 := by decide
  have e2 : (2304#32 : BitVec 32).toInt = 2304 := by decide
  rw [e1] at h1'; rw [e2] at h2'
  have := BitVec.toInt_eq_toNat_cond a
  split at this <;> omega

variable {F : FTy → Type} [FloatOps F] [Cert.Pre_sizes_partition_batch.Facts]

/-- The precondition gives that the sizes sum to the batch, 2304. -/
theorem of_pre {x0 x1 x2 x3 x4} (x : IVec S14 32)
    (h : Cert.Pre_sizes_partition_batch.fn (F := F) x0 x1 x2 x3 x4 x = fun _ => 1#1) : upto x 14 = 2304 := by
  have hi : ∀ i, at' x i ≤ 2304 := by
    intro i
    unfold at'; split
    · rename_i hi
      have h := congrFun h (ix1 ⟨i, hi⟩)
      obtain ⟨h, -⟩ := bit_and h
      obtain ⟨h1, h2⟩ := bit_and h
      exact word_le h1 h2
    · exact Nat.zero_le _
  have hb := upto_le x 2304 hi 14
  have h := congrFun h (ix1 0)
  obtain ⟨-, h⟩ := bit_and h
  have e := reduce_sum x (at' x) (at'_word x) Cert.Pre_sizes_partition_batch.Facts.reducesTo_S14_S_d0 Cert.Pre_sizes_partition_batch.Facts.h_S_
  have h' : IntOp.cmpi .eq (BitVec.ofNat 32 (upto x 14)) 2304#32 = 1#1 := by
    unfold upto; rw [← e]
    refine Eq.trans ?_ h
    rw [broadcastInDim]
    show _ = IntOp.cmpi _ _ _
    congr 2
    exact (eq_ix0 _).symm
  have h2 : BitVec.ofNat 32 (upto x 14) = 2304#32 := by
    have h'' : BitVec.ofBool (BitVec.ofNat 32 (upto x 14) == 2304#32) = 1#1 := h'
    by_contra hne
    rw [beq_false_of_ne hne] at h''
    exact absurd h'' (by decide)
  have h3 := congrArg BitVec.toNat h2
  rw [BitVec.toNat_ofNat, Nat.mod_eq_of_lt (by omega)] at h3
  exact h3

end Cert.Sizes
-- ==== Proof.Blocks.lean ====
/-
  The blocks the kernel reads, as the argument arrays; and the precondition as a fact about the sizes the kernel reads.
-/
module

public import proofs.«01_k».proof.Proof.Run
public import proofs.«01_k».proof.Proof.Pre
public import Idealize.ShloMosaic.Lib.Pipeline.ValueKit

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx (ix1 ix2 ix3)

variable {F : FTy → Type} [FloatOps F]

theorem off1_eq (k : Fin k0_t1_loop.trips) : k0_off1 k = ![k.val] := by
  revert k; decide +kernel

theorem size_eq (x1 : Vec F S14 .i32) (k : Fin k0_t1_loop.trips) : (size x1 k).toNat = Cert.Sizes.at' x1 k.val := by
  have hk : k.val < 14 := lt_of_lt_of_eq k.isLt t1_trips
  unfold Cert.Sizes.at'
  rw [dif_pos hk]
  unfold size
  refine congrArg (fun i => BitVec.toNat (x1 i)) (funext fun a => Fin.ext ?_)
  match a with
  | ⟨0, _⟩ =>
    show k0_off1 k 0 + 1 * 0 = k.val
    rw [off1_eq]; rfl

/-- The kernel's sum of the first sizes is the sum of the first sizes. -/
theorem pre_eq (x1 : Vec F S14 .i32) (n : ℕ) (hn : n ≤ 14) : pre x1 n = Cert.Sizes.upto x1 n := by
  induction n with
  | zero => rfl
  | succ n ih =>
    rw [pre.eq_2, dif_pos (lt_of_lt_of_eq hn t1_trips.symm), Cert.Sizes.upto_succ, ih (by omega), size_eq]

/-! ## The index maps -/

theorem idx : ∀ t : Fin cfg0.N, win0_0.index t = ![0] ∧ win0_1.index t = ![0] ∧ win0_2.index t = ![0, 0]
    ∧ win0_3.index t = ![0, t.val] ∧ win0_4.index t = ![0, t.val] ∧ win0_5.index t = ![0, 0, t.val] ∧ win0_6.index t = ![0, t.val] :=
  (by decide +kernel : ∀ t : Fin grid0.N, _)

variable (m : (ℓ : Loc nD τ sig) → Buf (Elt F) ℓ)

theorem iblk0 (c : Dev nD) (t : Fin cfg0.N) : iblk m c 0 t = m ((c : Thread nD τ).loc main_arg5) := by
  funext i
  blk_ext [iblk, V, idx t]

/-- The precondition makes the sizes the kernel reads sum to the batch. -/
theorem sizesOK [Cert.Pre_sizes_partition_batch.Facts] (h : ∀ c : Dev nD, Cert.Pre_sizes_partition_batch.fn (F := F)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) = fun _ => 1#1) :
    SizesOK m := by
  intro c t
  unfold Sizes
  rw [iblk0, pre_eq _ _ (Nat.le_refl _)]
  exact Cert.Sizes.of_pre _ (h c)

end Cert.KernelIdeal.Body
-- ==== Proof.Bits.Body.lean ====
/-
  The kernel's body on whole buffers, as functions of what the buffers hold: the sign matrix one tenant's packed bits are
  decoded into (`signs`), what one chunk of rows leaves in the result (`chunk`), one tenant (`tenant`), all tenants
  (`tenants`); and the proof that the body runs to exactly those contents.
-/
module

public import proofs.«01_k».proof.Proof.Gen.Kernel.Skeleton
public import Idealize.ShloMosaic.Lib.Exec
public import Idealize.ShloMosaic.Lib.Tactic
public import Idealize.ShloMosaic.Lib.Pipeline.Kit
public import Idealize.ShloMosaic.Lib.VecWindow

@[expose] public section

set_option maxRecDepth 8192

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ## The sign matrix of one tenant -/

/-- Sixteen rows of signs out of one row of 32-bit words (repeated on eight sublanes): sublane `s` shifts the pair of
    bits `2s`, `2s+1` of the word's half into the two bf16 sign positions, and the pattern of minus one is flipped there. -/
def half (w : IVec S8x1280 32) (sh : BitVec 32) : FVec F S16x1280 .bf16 :=
  have v20 : IVec S8x1280 32 := shrui w (broadcast S8x1280 sh)
  have v27 : IVec S8x1280 32 := ori (andi v20 (broadcast S8x1280 65535#32)) (andi (shli v20 (broadcast S8x1280 15#32)) (broadcast S8x1280 4294901760#32))
  have v18 : IVec S8x1280 32 := muli (broadcast S8x1280 2#32) (iota .tc S8x1280 32 [0] iota_S8x1280_d0_w32)
  have v30 : IVec S8x1280 32 := shli v27 (subi (broadcast S8x1280 15#32) v18)
  have v34 : IVec S8x1280 32 := xori (andi v30 (broadcast S8x1280 2147516416#32)) (broadcast S8x1280 3212885888#32)
  bitcastToFloat .bf16 (bitcast S16x1280 16 v34 bitcasts_S8x1280_w32_S16x1280_w16)

/-- Row `o 0` of the words a block of 32 packed bytes holds, repeated on eight sublanes. -/
def word (v : Vec F S1x32x1280 .i8) (o : Fin 2 → ℕ) (h : Shape.Slices S8x1280 o S1x1280) : IVec S8x1280 32 :=
  broadcastTo S8x1280 (shapeCast S1x1280 (extractStridedSlice S1x1280 o
    (bitcast S8x1280 32 (shapeCast S32x1280 v shapeCasts_S1x32x1280_S32x1280) bitcasts_S32x1280_w8_S8x1280_w32) h)
    shapeCasts_S1x1280_S1x1280) broadcasts_S1x1280_S8x1280

/-- The 32 rows of signs one word row gives: its low half, then its high half. -/
def sblk (v : Vec F S1x32x1280 .i8) (o : Fin 2 → ℕ) (h : Shape.Slices S8x1280 o S1x1280) : FVec F S32x1280 .bf16 :=
  shapeCast S32x1280 (concatenate S32x1280 0 [⟨S16x1280, half (word v o h) 0#32⟩, ⟨S16x1280, half (word v o h) 16#32⟩]
    concatenates_S16x1280_S16x1280_S32x1280_d0) shapeCasts_S32x1280_S32x1280

/-- The 48 blocks of 32 rows, the last written first. -/
def pieces (k0_t1 : Fin k0_t1_loop.trips) (x6 : Vec F S14x192x1280 .i8) : List (View.Piece (Elt F) S1536x1280 .bf16) :=
  [⟨Rect.unit (s := S1536x1280) ![1504, 0] S32x1280.size inb_S1536x1280_S32x1280_1504_0, sblk (View.ld x6 (Rect.unit (s := S14x192x1280) (k0_off7 k0_t1) S1x32x1280.size (k0_off7_inb k0_t1))) ![7, 0] slices_S8x1280_o7_0_S1x1280⟩,
   ⟨Rect.unit (s := S1536x1280) ![1472, 0] S32x1280.size inb_S1536x1280_S32x1280_1472_0, sblk (View.ld x6 (Rect.unit (s := S14x192x1280) (k0_off7 k0_t1) S1x32x1280.size (k0_off7_inb k0_t1))) ![6, 0] slices_S8x1280_o6_0_S1x1280⟩,
   ⟨Rect.unit (s := S1536x1280) ![1440, 0] S32x1280.size inb_S1536x1280_S32x1280_1440_0, sblk (View.ld x6 (Rect.unit (s := S14x192x1280) (k0_off7 k0_t1) S1x32x1280.size (k0_off7_inb k0_t1))) ![5, 0] slices_S8x1280_o5_0_S1x1280⟩,
   ⟨Rect.unit (s := S1536x1280) ![1408, 0] S32x1280.size inb_S1536x1280_S32x1280_1408_0, sblk (View.ld x6 (Rect.unit (s := S14x192x1280) (k0_off7 k0_t1) S1x32x1280.size (k0_off7_inb k0_t1))) ![4, 0] slices_S8x1280_o4_0_S1x1280⟩,
   ⟨Rect.unit (s := S1536x1280) ![1376, 0] S32x1280.size inb_S1536x1280_S32x1280_1376_0, sblk (View.ld x6 (Rect.unit (s := S14x192x1280) (k0_off7 k0_t1) S1x32x1280.size (k0_off7_inb k0_t1))) ![3, 0] slices_S8x1280_o3_0_S1x1280⟩,
   ⟨Rect.unit (s := S1536x1280) ![1344, 0] S32x1280.size inb_S1536x1280_S32x1280_1344_0, sblk (View.ld x6 (Rect.unit (s := S14x192x1280) (k0_off7 k0_t1) S1x32x1280.size (k0_off7_inb k0_t1))) ![2, 0] slices_S8x1280_o2_0_S1x1280⟩,
   ⟨Rect.unit (s := S1536x1280) ![1312, 0] S32x1280.size inb_S1536x1280_S32x1280_1312_0, sblk (View.ld x6 (Rect.unit (s := S14x192x1280) (k0_off7 k0_t1) S1x32x1280.size (k0_off7_inb k0_t1))) ![1, 0] slices_S8x1280_o1_0_S1x1280⟩,
   ⟨Rect.unit (s := S1536x1280) ![1280, 0] S32x1280.size inb_S1536x1280_S32x1280_1280_0, sblk (View.ld x6 (Rect.unit (s := S14x192x1280) (k0_off7 k0_t1) S1x32x1280.size (k0_off7_inb k0_t1))) ![0, 0] slices_S8x1280_o0_0_S1x1280⟩,
   ⟨Rect.unit (s := S1536x1280) ![1248, 0] S32x1280.size inb_S1536x1280_S32x1280_1248_0, sblk (View.ld x6 (Rect.unit (s := S14x192x1280) (k0_off6 k0_t1) S1x32x1280.size (k0_off6_inb k0_t1))) ![7, 0] slices_S8x1280_o7_0_S1x1280⟩,
   ⟨Rect.unit (s := S1536x1280) ![1216, 0] S32x1280.size inb_S1536x1280_S32x1280_1216_0, sblk (View.ld x6 (Rect.unit (s := S14x192x1280) (k0_off6 k0_t1) S1x32x1280.size (k0_off6_inb k0_t1))) ![6, 0] slices_S8x1280_o6_0_S1x1280⟩,
   ⟨Rect.unit (s := S1536x1280) ![1184, 0] S32x1280.size inb_S1536x1280_S32x1280_1184_0, sblk (View.ld x6 (Rect.unit (s := S14x192x1280) (k0_off6 k0_t1) S1x32x1280.size (k0_off6_inb k0_t1))) ![5, 0] slices_S8x1280_o5_0_S1x1280⟩,
   ⟨Rect.unit (s := S1536x1280) ![1152, 0] S32x1280.size inb_S1536x1280_S32x1280_1152_0, sblk (View.ld x6 (Rect.unit (s := S14x192x1280) (k0_off6 k0_t1) S1x32x1280.size (k0_off6_inb k0_t1))) ![4, 0] slices_S8x1280_o4_0_S1x1280⟩,
   ⟨Rect.unit (s := S1536x1280) ![1120, 0] S32x1280.size inb_S1536x1280_S32x1280_1120_0, sblk (View.ld x6 (Rect.unit (s := S14x192x1280) (k0_off6 k0_t1) S1x32x1280.size (k0_off6_inb k0_t1))) ![3, 0] slices_S8x1280_o3_0_S1x1280⟩,
   ⟨Rect.unit (s := S1536x1280) ![1088, 0] S32x1280.size inb_S1536x1280_S32x1280_1088_0, sblk (View.ld x6 (Rect.unit (s := S14x192x1280) (k0_off6 k0_t1) S1x32x1280.size (k0_off6_inb k0_t1))) ![2, 0] slices_S8x1280_o2_0_S1x1280⟩,
   ⟨Rect.unit (s := S1536x1280) ![1056, 0] S32x1280.size inb_S1536x1280_S32x1280_1056_0, sblk (View.ld x6 (Rect.unit (s := S14x192x1280) (k0_off6 k0_t1) S1x32x1280.size (k0_off6_inb k0_t1))) ![1, 0] slices_S8x1280_o1_0_S1x1280⟩,
   ⟨Rect.unit (s := S1536x1280) ![1024, 0] S32x1280.size inb_S1536x1280_S32x1280_1024_0, sblk (View.ld x6 (Rect.unit (s := S14x192x1280) (k0_off6 k0_t1) S1x32x1280.size (k0_off6_inb k0_t1))) ![0, 0] slices_S8x1280_o0_0_S1x1280⟩,
   ⟨Rect.unit (s := S1536x1280) ![992, 0] S32x1280.size inb_S1536x1280_S32x1280_992_0, sblk (View.ld x6 (Rect.unit (s := S14x192x1280) (k0_off5 k0_t1) S1x32x1280.size (k0_off5_inb k0_t1))) ![7, 0] slices_S8x1280_o7_0_S1x1280⟩,
   ⟨Rect.unit (s := S1536x1280) ![960, 0] S32x1280.size inb_S1536x1280_S32x1280_960_0, sblk (View.ld x6 (Rect.unit (s := S14x192x1280) (k0_off5 k0_t1) S1x32x1280.size (k0_off5_inb k0_t1))) ![6, 0] slices_S8x1280_o6_0_S1x1280⟩,
   ⟨Rect.unit (s := S1536x1280) ![928, 0] S32x1280.size inb_S1536x1280_S32x1280_928_0, sblk (View.ld x6 (Rect.unit (s := S14x192x1280) (k0_off5 k0_t1) S1x32x1280.size (k0_off5_inb k0_t1))) ![5, 0] slices_S8x1280_o5_0_S1x1280⟩,
   ⟨Rect.unit (s := S1536x1280) ![896, 0] S32x1280.size inb_S1536x1280_S32x1280_896_0, sblk (View.ld x6 (Rect.unit (s := S14x192x1280) (k0_off5 k0_t1) S1x32x1280.size (k0_off5_inb k0_t1))) ![4, 0] slices_S8x1280_o4_0_S1x1280⟩,
   ⟨Rect.unit (s := S1536x1280) ![864, 0] S32x1280.size inb_S1536x1280_S32x1280_864_0, sblk (View.ld x6 (Rect.unit (s := S14x192x1280) (k0_off5 k0_t1) S1x32x1280.size (k0_off5_inb k0_t1))) ![3, 0] slices_S8x1280_o3_0_S1x1280⟩,
   ⟨Rect.unit (s := S1536x1280) ![832, 0] S32x1280.size inb_S1536x1280_S32x1280_832_0, sblk (View.ld x6 (Rect.unit (s := S14x192x1280) (k0_off5 k0_t1) S1x32x1280.size (k0_off5_inb k0_t1))) ![2, 0] slices_S8x1280_o2_0_S1x1280⟩,
   ⟨Rect.unit (s := S1536x1280) ![800, 0] S32x1280.size inb_S1536x1280_S32x1280_800_0, sblk (View.ld x6 (Rect.unit (s := S14x192x1280) (k0_off5 k0_t1) S1x32x1280.size (k0_off5_inb k0_t1))) ![1, 0] slices_S8x1280_o1_0_S1x1280⟩,
   ⟨Rect.unit (s := S1536x1280) ![768, 0] S32x1280.size inb_S1536x1280_S32x1280_768_0, sblk (View.ld x6 (Rect.unit (s := S14x192x1280) (k0_off5 k0_t1) S1x32x1280.size (k0_off5_inb k0_t1))) ![0, 0] slices_S8x1280_o0_0_S1x1280⟩,
   ⟨Rect.unit (s := S1536x1280) ![736, 0] S32x1280.size inb_S1536x1280_S32x1280_736_0, sblk (View.ld x6 (Rect.unit (s := S14x192x1280) (k0_off4 k0_t1) S1x32x1280.size (k0_off4_inb k0_t1))) ![7, 0] slices_S8x1280_o7_0_S1x1280⟩,
   ⟨Rect.unit (s := S1536x1280) ![704, 0] S32x1280.size inb_S1536x1280_S32x1280_704_0, sblk (View.ld x6 (Rect.unit (s := S14x192x1280) (k0_off4 k0_t1) S1x32x1280.size (k0_off4_inb k0_t1))) ![6, 0] slices_S8x1280_o6_0_S1x1280⟩,
   ⟨Rect.unit (s := S1536x1280) ![672, 0] S32x1280.size inb_S1536x1280_S32x1280_672_0, sblk (View.ld x6 (Rect.unit (s := S14x192x1280) (k0_off4 k0_t1) S1x32x1280.size (k0_off4_inb k0_t1))) ![5, 0] slices_S8x1280_o5_0_S1x1280⟩,
   ⟨Rect.unit (s := S1536x1280) ![640, 0] S32x1280.size inb_S1536x1280_S32x1280_640_0, sblk (View.ld x6 (Rect.unit (s := S14x192x1280) (k0_off4 k0_t1) S1x32x1280.size (k0_off4_inb k0_t1))) ![4, 0] slices_S8x1280_o4_0_S1x1280⟩,
   ⟨Rect.unit (s := S1536x1280) ![608, 0] S32x1280.size inb_S1536x1280_S32x1280_608_0, sblk (View.ld x6 (Rect.unit (s := S14x192x1280) (k0_off4 k0_t1) S1x32x1280.size (k0_off4_inb k0_t1))) ![3, 0] slices_S8x1280_o3_0_S1x1280⟩,
   ⟨Rect.unit (s := S1536x1280) ![576, 0] S32x1280.size inb_S1536x1280_S32x1280_576_0, sblk (View.ld x6 (Rect.unit (s := S14x192x1280) (k0_off4 k0_t1) S1x32x1280.size (k0_off4_inb k0_t1))) ![2, 0] slices_S8x1280_o2_0_S1x1280⟩,
   ⟨Rect.unit (s := S1536x1280) ![544, 0] S32x1280.size inb_S1536x1280_S32x1280_544_0, sblk (View.ld x6 (Rect.unit (s := S14x192x1280) (k0_off4 k0_t1) S1x32x1280.size (k0_off4_inb k0_t1))) ![1, 0] slices_S8x1280_o1_0_S1x1280⟩,
   ⟨Rect.unit (s := S1536x1280) ![512, 0] S32x1280.size inb_S1536x1280_S32x1280_512_0, sblk (View.ld x6 (Rect.unit (s := S14x192x1280) (k0_off4 k0_t1) S1x32x1280.size (k0_off4_inb k0_t1))) ![0, 0] slices_S8x1280_o0_0_S1x1280⟩,
   ⟨Rect.unit (s := S1536x1280) ![480, 0] S32x1280.size inb_S1536x1280_S32x1280_480_0, sblk (View.ld x6 (Rect.unit (s := S14x192x1280) (k0_off3 k0_t1) S1x32x1280.size (k0_off3_inb k0_t1))) ![7, 0] slices_S8x1280_o7_0_S1x1280⟩,
   ⟨Rect.unit (s := S1536x1280) ![448, 0] S32x1280.size inb_S1536x1280_S32x1280_448_0, sblk (View.ld x6 (Rect.unit (s := S14x192x1280) (k0_off3 k0_t1) S1x32x1280.size (k0_off3_inb k0_t1))) ![6, 0] slices_S8x1280_o6_0_S1x1280⟩,
   ⟨Rect.unit (s := S1536x1280) ![416, 0] S32x1280.size inb_S1536x1280_S32x1280_416_0, sblk (View.ld x6 (Rect.unit (s := S14x192x1280) (k0_off3 k0_t1) S1x32x1280.size (k0_off3_inb k0_t1))) ![5, 0] slices_S8x1280_o5_0_S1x1280⟩,
   ⟨Rect.unit (s := S1536x1280) ![384, 0] S32x1280.size inb_S1536x1280_S32x1280_384_0, sblk (View.ld x6 (Rect.unit (s := S14x192x1280) (k0_off3 k0_t1) S1x32x1280.size (k0_off3_inb k0_t1))) ![4, 0] slices_S8x1280_o4_0_S1x1280⟩,
   ⟨Rect.unit (s := S1536x1280) ![352, 0] S32x1280.size inb_S1536x1280_S32x1280_352_0, sblk (View.ld x6 (Rect.unit (s := S14x192x1280) (k0_off3 k0_t1) S1x32x1280.size (k0_off3_inb k0_t1))) ![3, 0] slices_S8x1280_o3_0_S1x1280⟩,
   ⟨Rect.unit (s := S1536x1280) ![320, 0] S32x1280.size inb_S1536x1280_S32x1280_320_0, sblk (View.ld x6 (Rect.unit (s := S14x192x1280) (k0_off3 k0_t1) S1x32x1280.size (k0_off3_inb k0_t1))) ![2, 0] slices_S8x1280_o2_0_S1x1280⟩,
   ⟨Rect.unit (s := S1536x1280) ![288, 0] S32x1280.size inb_S1536x1280_S32x1280_288_0, sblk (View.ld x6 (Rect.unit (s := S14x192x1280) (k0_off3 k0_t1) S1x32x1280.size (k0_off3_inb k0_t1))) ![1, 0] slices_S8x1280_o1_0_S1x1280⟩,
   ⟨Rect.unit (s := S1536x1280) ![256, 0] S32x1280.size inb_S1536x1280_S32x1280_256_0, sblk (View.ld x6 (Rect.unit (s := S14x192x1280) (k0_off3 k0_t1) S1x32x1280.size (k0_off3_inb k0_t1))) ![0, 0] slices_S8x1280_o0_0_S1x1280⟩,
   ⟨Rect.unit (s := S1536x1280) ![224, 0] S32x1280.size inb_S1536x1280_S32x1280_224_0, sblk (View.ld x6 (Rect.unit (s := S14x192x1280) (k0_off2 k0_t1) S1x32x1280.size (k0_off2_inb k0_t1))) ![7, 0] slices_S8x1280_o7_0_S1x1280⟩,
   ⟨Rect.unit (s := S1536x1280) ![192, 0] S32x1280.size inb_S1536x1280_S32x1280_192_0, sblk (View.ld x6 (Rect.unit (s := S14x192x1280) (k0_off2 k0_t1) S1x32x1280.size (k0_off2_inb k0_t1))) ![6, 0] slices_S8x1280_o6_0_S1x1280⟩,
   ⟨Rect.unit (s := S1536x1280) ![160, 0] S32x1280.size inb_S1536x1280_S32x1280_160_0, sblk (View.ld x6 (Rect.unit (s := S14x192x1280) (k0_off2 k0_t1) S1x32x1280.size (k0_off2_inb k0_t1))) ![5, 0] slices_S8x1280_o5_0_S1x1280⟩,
   ⟨Rect.unit (s := S1536x1280) ![128, 0] S32x1280.size inb_S1536x1280_S32x1280_128_0, sblk (View.ld x6 (Rect.unit (s := S14x192x1280) (k0_off2 k0_t1) S1x32x1280.size (k0_off2_inb k0_t1))) ![4, 0] slices_S8x1280_o4_0_S1x1280⟩,
   ⟨Rect.unit (s := S1536x1280) ![96, 0] S32x1280.size inb_S1536x1280_S32x1280_96_0, sblk (View.ld x6 (Rect.unit (s := S14x192x1280) (k0_off2 k0_t1) S1x32x1280.size (k0_off2_inb k0_t1))) ![3, 0] slices_S8x1280_o3_0_S1x1280⟩,
   ⟨Rect.unit (s := S1536x1280) ![64, 0] S32x1280.size inb_S1536x1280_S32x1280_64_0, sblk (View.ld x6 (Rect.unit (s := S14x192x1280) (k0_off2 k0_t1) S1x32x1280.size (k0_off2_inb k0_t1))) ![2, 0] slices_S8x1280_o2_0_S1x1280⟩,
   ⟨Rect.unit (s := S1536x1280) ![32, 0] S32x1280.size inb_S1536x1280_S32x1280_32_0, sblk (View.ld x6 (Rect.unit (s := S14x192x1280) (k0_off2 k0_t1) S1x32x1280.size (k0_off2_inb k0_t1))) ![1, 0] slices_S8x1280_o1_0_S1x1280⟩,
   ⟨Rect.unit (s := S1536x1280) ![0, 0] S32x1280.size inb_S1536x1280_S32x1280_0_0, sblk (View.ld x6 (Rect.unit (s := S14x192x1280) (k0_off2 k0_t1) S1x32x1280.size (k0_off2_inb k0_t1))) ![0, 0] slices_S8x1280_o0_0_S1x1280⟩]

/-- The sign matrix of tenant `k0_t1`. -/
def signs (k0_t1 : Fin k0_t1_loop.trips) (x6 : Vec F S14x192x1280 .i8) : Vec F S1536x1280 .bf16 := View.canon (pieces k0_t1 x6)

/-- The blocks tile the matrix. -/
theorem cover (k0_t1 : Fin k0_t1_loop.trips) (x6 : Vec F S14x192x1280 .i8) (y : S1536x1280.Idx) : ∃ pc ∈ pieces k0_t1 x6, y ∈ pc.1.set :=
  View.cover_of_tiled (pieces k0_t1 x6) S32x1280.size (by rfl) y

/-! ## One chunk, one tenant, all tenants -/

/-- The row, a multiple of 16, a tenant's first chunk starts at: its first row rounded down. -/
def first (a : BitVec 32) : BitVec 32 :=
  Scalar.muli (Scalar.select (Scalar.andi
      (Scalar.cmpi .ne (Scalar.subi (Scalar.extui (Scalar.cmpi .sgt a 0#32)) (Scalar.extui (Scalar.cmpi .slt a 0#32)))
        (Scalar.subi (Scalar.extui (Scalar.cmpi .sgt 16#32 0#32)) (Scalar.extui (Scalar.cmpi .slt 16#32 0#32))))
      (Scalar.cmpi .ne (Scalar.remsi a 16#32) 0#32))
    (Scalar.subi (Scalar.divsi a 16#32) 1#32) (Scalar.divsi a 16#32)) 16#32

/-- The result after one chunk: rows `k0_off10 …` on hold the chunk's payload. -/
def chunk (x3 : Vec F S4608x1536 .bf16) (x4 : Vec F S1536x1280 .fp8e4m3) (x5 : Vec F S1x1280 .f32) (x8 : Vec F S1536x1280 .bf16)
    (a : BitVec 32) (v : BitVec 32) (sc : Elt F .f32) (hw : k0_chk1 a v) (h1 : k0_cond1 a v = 1#1) (k : Fin (k0_t2_loop a v).trips)
    (y : Vec F S4608x1280 .bf16) : Vec F S4608x1280 .bf16 :=
  VecWindow.put y (k0_off10 a v k) S256x1280.size
    (k0_pay1 a v (first a) sc k (View.ld x3 (Rect.unit (s := S4608x1536) (k0_off9 a v k) S256x1536.size (k0_off9_inb a v hw k h1)))
      x4 x8 x5 (View.ld y (Rect.unit (s := S4608x1280) (k0_off10 a v k) S256x1280.size (k0_off10_inb a v hw k h1))))

/-- The result after `n` chunks of a tenant. -/
def chunks (x3 : Vec F S4608x1536 .bf16) (x4 : Vec F S1536x1280 .fp8e4m3) (x5 : Vec F S1x1280 .f32) (x8 : Vec F S1536x1280 .bf16)
    (a : BitVec 32) (v : BitVec 32) (sc : Elt F .f32) (hw : k0_chk1 a v) (h1 : k0_cond1 a v = 1#1) (y : Vec F S4608x1280 .bf16) :
    ℕ → Vec F S4608x1280 .bf16
  | 0 => y
  | n + 1 => if h : n < (k0_t2_loop a v).trips then chunk x3 x4 x5 x8 a v sc hw h1 ⟨n, h⟩ (chunks x3 x4 x5 x8 a v sc hw h1 y n)
      else chunks x3 x4 x5 x8 a v sc hw h1 y n

theorem chunks_succ (x3 : Vec F S4608x1536 .bf16) (x4 : Vec F S1536x1280 .fp8e4m3) (x5 : Vec F S1x1280 .f32) (x8 : Vec F S1536x1280 .bf16)
    (a : BitVec 32) (v : BitVec 32) (sc : Elt F .f32) (hw : k0_chk1 a v) (h1 : k0_cond1 a v = 1#1) (y : Vec F S4608x1280 .bf16)
    (k : Fin (k0_t2_loop a v).trips) :
    chunks x3 x4 x5 x8 a v sc hw h1 y (k.val + 1) = chunk x3 x4 x5 x8 a v sc hw h1 k (chunks x3 x4 x5 x8 a v sc hw h1 y k.val) := by
  rw [chunks.eq_2]; exact dif_pos k.isLt

/-- Tenant `k`'s size and scale. -/
def size (x1 : Vec F S14 .i32) (k : Fin k0_t1_loop.trips) : BitVec 32 :=
  View.ld x1 (Rect.unit (s := S14) (k0_off1 k) S1.size (k0_off1_inb k)) (Shape.Idx.first (Nat.lt_of_lt_of_eq Nat.one_pos numel1_S1.symm))
def scale (x2 : Vec F S14 .f32) (k : Fin k0_t1_loop.trips) : Elt F .f32 :=
  View.ld x2 (Rect.unit (s := S14) (k0_off8 k) S1.size (k0_off8_inb k)) (Shape.Idx.first (Nat.lt_of_lt_of_eq Nat.one_pos numel1_S1.symm))

/-- The row tenant `n` starts at: twice the sum of the sizes before it. -/
def start (x1 : Vec F S14 .i32) : ℕ → BitVec 32
  | 0 => 0#32
  | n + 1 => if h : n < k0_t1_loop.trips then Scalar.addi (start x1 n) (Scalar.muli 2#32 (size x1 ⟨n, h⟩)) else start x1 n

theorem start_succ (x1 : Vec F S14 .i32) (k : Fin k0_t1_loop.trips) :
    start x1 (k.val + 1) = Scalar.addi (start x1 k.val) (Scalar.muli 2#32 (size x1 k)) := by
  rw [start.eq_2]; exact dif_pos k.isLt

/-- What the tenants' rows have to meet for the run: every chunk's window within the buffers. -/
def Fits (x1 : Vec F S14 .i32) : Prop := ∀ k : Fin k0_t1_loop.trips, k0_chk1 (start x1 k.val) (size x1 k)

/-- The result after tenant `k`. -/
def tenant (x1 : Vec F S14 .i32) (x2 : Vec F S14 .f32) (x3 : Vec F S4608x1536 .bf16) (x4 : Vec F S1536x1280 .fp8e4m3) (x5 : Vec F S1x1280 .f32)
    (x6 : Vec F S14x192x1280 .i8) (hf : Fits x1) (k : Fin k0_t1_loop.trips) (y : Vec F S4608x1280 .bf16) : Vec F S4608x1280 .bf16 :=
  if h1 : k0_cond1 (start x1 k.val) (size x1 k) = 1#1 then
    chunks x3 x4 x5 (signs k x6) (start x1 k.val) (size x1 k) (scale x2 k) (hf k) h1 y (k0_t2_loop (start x1 k.val) (size x1 k)).trips
  else y

/-- The result after `n` tenants. -/
def tenants (x1 : Vec F S14 .i32) (x2 : Vec F S14 .f32) (x3 : Vec F S4608x1536 .bf16) (x4 : Vec F S1536x1280 .fp8e4m3) (x5 : Vec F S1x1280 .f32)
    (x6 : Vec F S14x192x1280 .i8) (hf : Fits x1) (y : Vec F S4608x1280 .bf16) : ℕ → Vec F S4608x1280 .bf16
  | 0 => y
  | n + 1 => if h : n < k0_t1_loop.trips then tenant x1 x2 x3 x4 x5 x6 hf ⟨n, h⟩ (tenants x1 x2 x3 x4 x5 x6 hf y n)
      else tenants x1 x2 x3 x4 x5 x6 hf y n

theorem tenants_succ (x1 : Vec F S14 .i32) (x2 : Vec F S14 .f32) (x3 : Vec F S4608x1536 .bf16) (x4 : Vec F S1536x1280 .fp8e4m3) (x5 : Vec F S1x1280 .f32)
    (x6 : Vec F S14x192x1280 .i8) (hf : Fits x1) (y : Vec F S4608x1280 .bf16) (k : Fin k0_t1_loop.trips) :
    tenants x1 x2 x3 x4 x5 x6 hf y (k.val + 1) = tenant x1 x2 x3 x4 x5 x6 hf k (tenants x1 x2 x3 x4 x5 x6 hf y k.val) := by
  rw [tenants.eq_2]; exact dif_pos k.isLt

/-! ## The remainder loop runs no trip -/

theorem t3_trips (a v : BitVec 32) : (k0_t3_loop a v).trips = 0 := by
  unfold k0_t3_loop Scf.Loop.trips
  dsimp only
  generalize Scalar.subi (Scalar.select _ _ _) _ = z
  have hz : Scalar.addi 0#32 (Scalar.muli (Scalar.divsi z 1#32) 1#32) = Scalar.addi 0#32 z := by
    have h1 : Scalar.divsi z 1#32 = z := by
      show IntOp.divsi .scalar z 1#32 = z
      unfold IntOp.divsi
      rw [if_neg (fun h => h.elim (by decide) (fun h => absurd h.2 (by decide)))]
      exact BitVec.sdiv_one
    rw [h1]; show 0#32 + z * 1#32 = 0#32 + z
    simp
  rw [hz]
  unfold Scf.trips
  simp

/-! ## The runs -/

variable (i : grid0.Coords) (arg1 : Memref sig .tc .smem S14 .i32) (harg1 : arg1.IsWhole) (arg2 : Memref sig .tc .smem S14 .f32) (harg2 : arg2.IsWhole) (arg3 : Memref sig .tc .vmem S4608x1536 .bf16) (harg3 : arg3.IsWhole) (arg4 : Memref sig .tc .vmem S1536x1280 .fp8e4m3) (harg4 : arg4.IsWhole) (arg5 : Memref sig .tc .vmem S1x1280 .f32) (harg5 : arg5.IsWhole) (arg6 : Memref sig .tc .vmem S14x192x1280 .i8) (harg6 : arg6.IsWhole) (arg7 : Memref sig .tc .vmem S4608x1280 .bf16) (harg7 : arg7.IsWhole) (arg8 : Memref sig .tc .vmem S1536x1280 .bf16) (harg8 : arg8.IsWhole)

variable (𝒱 : Variants) (c : Dev nD) (bd : Option 𝒱.V) (E : Set ℕ)

set_option maxHeartbeats 2000000 in
/-- DECODING: from the packed bits, the tenant's scale and any contents of the sign scratch, the decoding leaves the tenant's signs there
    and returns the row the first chunk starts at and the scale. -/
theorem decode_run (k0_t1 : Fin k0_t1_loop.trips) (arg10 arg9 v5 : BitVec 32)
    (X2 : BufTy.Contents (Elt F) arg2.view.ty) (X6 : BufTy.Contents (Elt F) arg6.view.ty) (f8 : BufTy.Contents (Elt F) arg8.view.ty) :
    iprop((arg2.view.loc (c : Thread nD τ) ↦[arg2.view.set]{fullShare} X2) ∗ (arg6.view.loc (c : Thread nD τ) ↦[arg6.view.set]{fullShare} X6)
      ∗ (arg8.view.loc (c : Thread nD τ) ↦[arg8.view.set]{fullShare} f8)) ⊢
    (wp frame (wpE (defs₀ (F := F)) 𝒱 (c : Thread nD τ) bd) E (k0_part56 (F := F) i arg1 harg1 arg2 harg2 arg3 harg3 arg4 harg4 arg5 harg5 arg6 harg6 arg7 harg7 arg8 harg8 k0_t1 arg10 arg9 v5)
      fun r => iprop(⌜r.1 = first arg10 ∧ r.2.1 = scale (arg2.view.read (Elt F) X2) k0_t1⌝
        ∗ (arg2.view.loc (c : Thread nD τ) ↦[arg2.view.set]{fullShare} X2) ∗ (arg6.view.loc (c : Thread nD τ) ↦[arg6.view.set]{fullShare} X6)
        ∗ (∃ f, (arg8.view.loc (c : Thread nD τ) ↦[arg8.view.set]{fullShare} f) ∗ ⌜arg8.view.read (Elt F) f = signs k0_t1 (arg6.view.read (Elt F) X6)⌝)) : sProp 𝕄G) := by
  rw [k0_part56_eq_skeleton]; unfold k0_part56_skel
  iintro ⟨H2, H6, H8⟩
  sl_exec
  sl_step
  isplitr
  · ipureintro; exact ⟨rfl, rfl⟩
  isplitl [H2]; · iexact H2
  isplitl [H6]; · iexact H6
  iexists _
  isplitl [H8]; · iexact H8
  ipureintro
  exact (View.read_writes_eq_canon _ _ (pieces k0_t1 (arg6.view.read (Elt F) X6)) (cover k0_t1 _))

/-! ## The loops -/

section Chunks

variable (a v : BitVec 32) (sc : Elt F .f32) (hw : k0_chk1 a v) (h1 : k0_cond1 a v = 1#1)
  (X3 : BufTy.Contents (Elt F) arg3.view.ty) (X4 : BufTy.Contents (Elt F) arg4.view.ty) (X5 : BufTy.Contents (Elt F) arg5.view.ty)
  (X8 : BufTy.Contents (Elt F) arg8.view.ty) (y : Vec F S4608x1280 .bf16)

/-- Before chunk `k` of a tenant: the operands and the signs as they are, the result after the first `k` chunks. -/
def ChunkInv (k : ℕ) : sProp 𝕄G :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} X8)
    ∗ (∃ f, (arg7.view.loc (c : Thread nD τ) ↦[arg7.view.set]{fullShare} f) ∗ ⌜arg7.view.read (Elt F) f = chunks (arg3.view.read (Elt F) X3) (arg4.view.read (Elt F) X4) (arg5.view.read (Elt F) X5) (arg8.view.read (Elt F) X8) a v sc hw h1 y k⌝))

set_option maxHeartbeats 2000000 in
/-- ONE CHUNK. -/
theorem chunk_run (k : Fin (k0_t2_loop a v).trips) (acc : BitVec 32) :
    ChunkInv arg3 arg4 arg5 arg7 arg8 c a v sc hw h1 X3 X4 X5 X8 y k.val ⊢
    (wp frame (wpE (defs₀ (F := F)) 𝒱 (c : Thread nD τ) bd) E (k0_t2_body (F := F) i arg1 harg1 arg2 harg2 arg3 harg3 arg4 harg4 arg5 harg5 arg6 harg6 arg7 harg7 arg8 harg8 a v hw h1 (first a) sc k acc)
      fun _ => ChunkInv arg3 arg4 arg5 arg7 arg8 c a v sc hw h1 X3 X4 X5 X8 y (k.val + 1)) := by
  unfold ChunkInv k0_t2_body
  iintro ⟨H3, H4, H5, H8, %f, H7, %hf⟩
  sl_exec
  sl_step
  isplitl [H3]; · iexact H3
  isplitl [H4]; · iexact H4
  isplitl [H5]; · iexact H5
  isplitl [H8]; · iexact H8
  iexists _
  isplitl [H7]; · iexact H7
  ipureintro
  rw [chunks_succ, ← hf]
  refine (View.read_writes_cons_put _ _ _ _ [] rfl).trans ?_
  unfold chunk
  rw [View.readAt_full, View.readAt_full, View.readAt_full]
  rfl

/-- ALL CHUNKS. -/
theorem chunks_run :
    ChunkInv arg3 arg4 arg5 arg7 arg8 c a v sc hw h1 X3 X4 X5 X8 y 0 ⊢
    (wp frame (wpE (defs₀ (F := F)) 𝒱 (c : Thread nD τ) bd) E (Scf.Loop.for (k0_t2_loop a v) (k0_t2_ok a v hw h1) 0#32 (k0_t2_body (F := F) i arg1 harg1 arg2 harg2 arg3 harg3 arg4 harg4 arg5 harg5 arg6 harg6 arg7 harg7 arg8 harg8 a v hw h1 (first a) sc))
      fun _ => ChunkInv arg3 arg4 arg5 arg7 arg8 c a v sc hw h1 X3 X4 X5 X8 y (k0_t2_loop a v).trips) := by
  refine .trans ?_ (Scf.wp_for _ _ _ _ _ _ (k0_t2_ok a v hw h1) _ _ (fun k _ => ChunkInv arg3 arg4 arg5 arg7 arg8 c a v sc hw h1 X3 X4 X5 X8 y k)
    (fun k acc => chunk_run i arg1 harg1 arg2 harg2 arg3 harg3 arg4 harg4 arg5 harg5 arg6 harg6 arg7 harg7 arg8 harg8 𝒱 c bd E a v sc hw h1 X3 X4 X5 X8 y k acc))
  iintro H
  isplitl [H]; · iexact H
  iintro %_ H
  iexact H

/-- THE REMAINDER LOOP runs no trip: whatever held before it holds after. -/
theorem rest_run (init : BitVec 32) (w₁ w₂ w₃ w₄ w₅ w₆ : BitVec 32) (P : sProp 𝕄G) :
    P ⊢ (wp frame (wpE (defs₀ (F := F)) 𝒱 (c : Thread nD τ) bd) E (Scf.Loop.for (k0_t3_loop a v) (k0_t3_ok a v hw h1) init (k0_t3_body (F := F) i arg1 harg1 arg2 harg2 arg3 harg3 arg4 harg4 arg5 harg5 arg6 harg6 arg7 harg7 arg8 harg8 a v hw h1 w₁ sc w₂ w₃ w₄ w₅ w₆))
      fun _ => P) := by
  refine .trans ?_ (Scf.wp_for _ _ _ _ _ _ (k0_t3_ok a v hw h1) _ _ (fun _ _ => P)
    (fun k acc => absurd k.isLt (by have h0 : (k0_t3_loop a v).trips = 0 := t3_trips a v
                                    have h2 : k.val < (k0_t3_loop a v).trips := k.isLt
                                    intro _; omega)))
  iintro H
  isplitl [H]; · iexact H
  iintro %_ H
  iexact H

end Chunks

section Tenants

variable (X1 : BufTy.Contents (Elt F) arg1.view.ty) (X2 : BufTy.Contents (Elt F) arg2.view.ty)
  (X3 : BufTy.Contents (Elt F) arg3.view.ty) (X4 : BufTy.Contents (Elt F) arg4.view.ty) (X5 : BufTy.Contents (Elt F) arg5.view.ty)
  (X6 : BufTy.Contents (Elt F) arg6.view.ty) (hf : Fits (arg1.view.read (Elt F) X1)) (y : Vec F S4608x1280 .bf16)

/-- Before tenant `k`, carrying `acc`: the operands as they are, anything in the sign scratch, the result after the first `k`
    tenants, and `acc` the row tenant `k` starts at. -/
def TenantInv (k : ℕ) (acc : BitVec 32) : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ (∃ f, (arg7.view.loc (c : Thread nD τ) ↦[arg7.view.set]{fullShare} f) ∗ ⌜arg7.view.read (Elt F) f = tenants (arg1.view.read (Elt F) X1) (arg2.view.read (Elt F) X2) (arg3.view.read (Elt F) X3) (arg4.view.read (Elt F) X4) (arg5.view.read (Elt F) X5) (arg6.view.read (Elt F) X6) hf y k⌝)
    ∗ (∃ f, (arg8.view.loc (c : Thread nD τ) ↦[arg8.view.set]{fullShare} f)) ∗ ⌜acc = start (arg1.view.read (Elt F) X1) k⌝)

set_option maxHeartbeats 2000000 in
/-- ONE TENANT. -/
theorem tenant_run (k : Fin k0_t1_loop.trips) (acc : BitVec 32) :
    TenantInv arg1 arg2 arg3 arg4 arg5 arg6 arg7 arg8 c X1 X2 X3 X4 X5 X6 hf y k.val acc ⊢
    (wp frame (wpE (defs₀ (F := F)) 𝒱 (c : Thread nD τ) bd) E (k0_t1_body (F := F) i arg1 harg1 arg2 harg2 arg3 harg3 arg4 harg4 arg5 harg5 arg6 harg6 arg7 harg7 arg8 harg8 k acc)
      fun acc' => TenantInv arg1 arg2 arg3 arg4 arg5 arg6 arg7 arg8 c X1 X2 X3 X4 X5 X6 hf y (k.val + 1) acc') := by
  unfold TenantInv k0_t1_body
  iintro ⟨H1, H2, H3, H4, H5, H6, ⟨%f, H7, %hf7⟩, ⟨%f8, H8⟩, %hacc⟩
  subst hacc
  have hchk := hf k
  have hcut := fun a9 v5 => decode_run (F := F) i arg1 harg1 arg2 harg2 arg3 harg3 arg4 harg4 arg5 harg5 arg6 harg6 arg7 harg7 arg8 harg8 𝒱 c bd E k (start (arg1.view.read (Elt F) X1) k.val) a9 v5 X2 X6 f8
  rw [start_succ, tenants_succ, tenant]
  by_cases h1 : k0_cond1 (start (arg1.view.read (Elt F) X1) k.val) (size (arg1.view.read (Elt F) X1) k) = 1#1
  · rw [dif_pos h1]
    sl_exec
    obtain ⟨hv, hs⟩ := hk0_part56_0
    dsimp only at hv hs
    subst hv hs
    iapply (exec_cut _ _ _ (chunks_run i arg1 harg1 arg2 harg2 arg3 harg3 arg4 harg4 arg5 harg5 arg6 harg6 arg7 harg7 arg8 harg8 𝒱 c bd E (start (arg1.view.read (Elt F) X1) k.val) (size (arg1.view.read (Elt F) X1) k) (scale (arg2.view.read (Elt F) X2) k) hchk h1 X3 X4 X5 fk0_part56_0
      (tenants (arg1.view.read (Elt F) X1) (arg2.view.read (Elt F) X2) (arg3.view.read (Elt F) X3) (arg4.view.read (Elt F) X4) (arg5.view.read (Elt F) X5) (arg6.view.read (Elt F) X6) hf y k.val))) $$ [H3 H4 H5 H7 Hk0_part56_3]
    · unfold ChunkInv
      isplitl [H3]; · iexact H3
      isplitl [H4]; · iexact H4
      isplitl [H5]; · iexact H5
      isplitl [Hk0_part56_3]; · iexact Hk0_part56_3
      iexists f
      isplitl [H7]; · iexact H7
      ipureintro; exact hf7
    iintro %_ H
    iapply (exec_cut _ _ _ (rest_run i arg1 harg1 arg2 harg2 arg3 harg3 arg4 harg4 arg5 harg5 arg6 harg6 arg7 harg7 arg8 harg8 𝒱 c bd E (start (arg1.view.read (Elt F) X1) k.val) (size (arg1.view.read (Elt F) X1) k) (scale (arg2.view.read (Elt F) X2) k) hchk h1 _ _ _ _ _ _ _ _)) $$ [H]
    · iexact H
    iintro %_ H
    unfold ChunkInv
    icases H with ⟨H3, H4, H5, H8, %f', H7, %hf'⟩
    sl_step
    isplitl [H1]; · iexact H1
    isplitl [Hk0_part56_1]; · iexact Hk0_part56_1
    isplitl [H3]; · iexact H3
    isplitl [H4]; · iexact H4
    isplitl [H5]; · iexact H5
    isplitl [Hk0_part56_2]; · iexact Hk0_part56_2
    isplitl [H7]
    · iexists f'
      isplitl [H7]; · iexact H7
      ipureintro; rw [hf', hk0_part56_4]
    isplitl [H8]
    · iexists fk0_part56_0; iexact H8
    ipureintro; rfl
  · rw [dif_neg h1]
    sl_exec
    sl_step
    isplitl [H1]; · iexact H1
    isplitl [H2]; · iexact H2
    isplitl [H3]; · iexact H3
    isplitl [H4]; · iexact H4
    isplitl [H5]; · iexact H5
    isplitl [H6]; · iexact H6
    isplitl [H7]
    · iexists f
      isplitl [H7]; · iexact H7
      ipureintro; exact hf7
    isplitl [H8]
    · iexists f8; iexact H8
    ipureintro; rfl

/-- ALL TENANTS. -/
theorem tenants_run :
    TenantInv arg1 arg2 arg3 arg4 arg5 arg6 arg7 arg8 c X1 X2 X3 X4 X5 X6 hf y 0 0#32 ⊢
    (wp frame (wpE (defs₀ (F := F)) 𝒱 (c : Thread nD τ) bd) E (Scf.Loop.for k0_t1_loop k0_t1_ok 0#32 (k0_t1_body (F := F) i arg1 harg1 arg2 harg2 arg3 harg3 arg4 harg4 arg5 harg5 arg6 harg6 arg7 harg7 arg8 harg8))
      fun acc => TenantInv arg1 arg2 arg3 arg4 arg5 arg6 arg7 arg8 c X1 X2 X3 X4 X5 X6 hf y k0_t1_loop.trips acc) := by
  refine .trans ?_ (Scf.wp_for _ _ _ _ _ _ k0_t1_ok _ _ (fun k acc => TenantInv arg1 arg2 arg3 arg4 arg5 arg6 arg7 arg8 c X1 X2 X3 X4 X5 X6 hf y k acc)
    (fun k acc => tenant_run i arg1 harg1 arg2 harg2 arg3 harg3 arg4 harg4 arg5 harg5 arg6 harg6 arg7 harg7 arg8 harg8 𝒱 c bd E X1 X2 X3 X4 X5 X6 hf y k acc))
  iintro H
  isplitl [H]; · iexact H
  iintro %_ H
  iexact H

set_option maxHeartbeats 2000000 in
/-- THE BODY on whole buffers: the operands as they were, the result after all fourteen tenants. -/
theorem body_run :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
      ∗ (∃ f, (arg7.view.loc (c : Thread nD τ) ↦[arg7.view.set]{fullShare} f) ∗ ⌜arg7.view.read (Elt F) f = y⌝) ∗ (∃ f, (arg8.view.loc (c : Thread nD τ) ↦[arg8.view.set]{fullShare} f))) : sProp 𝕄G) ⊢
    (wp frame (wpE (defs₀ (F := F)) 𝒱 (c : Thread nD τ) bd) E (cc0_bitdelta (F := F) i arg1 harg1 arg2 harg2 arg3 harg3 arg4 harg4 arg5 harg5 arg6 harg6 arg7 harg7 arg8 harg8)
      fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
        ∗ (∃ f, (arg7.view.loc (c : Thread nD τ) ↦[arg7.view.set]{fullShare} f) ∗ ⌜arg7.view.read (Elt F) f = tenants (arg1.view.read (Elt F) X1) (arg2.view.read (Elt F) X2) (arg3.view.read (Elt F) X3) (arg4.view.read (Elt F) X4) (arg5.view.read (Elt F) X5) (arg6.view.read (Elt F) X6) hf y 14⌝)
        ∗ (∃ f, (arg8.view.loc (c : Thread nD τ) ↦[arg8.view.set]{fullShare} f)))) := by
  rw [cc0_bitdelta_eq_skeleton]
  unfold cc0_bitdelta_skel
  iintro ⟨H1, H2, H3, H4, H5, H6, ⟨%f, H7, %hf7⟩, ⟨%f8, H8⟩⟩
  iapply (exec_cut _ _ _ (tenants_run i arg1 harg1 arg2 harg2 arg3 harg3 arg4 harg4 arg5 harg5 arg6 harg6 arg7 harg7 arg8 harg8 𝒱 c bd E X1 X2 X3 X4 X5 X6 hf y)) $$ [H1 H2 H3 H4 H5 H6 H7 H8]
  · unfold TenantInv
    isplitl [H1]; · iexact H1
    isplitl [H2]; · iexact H2
    isplitl [H3]; · iexact H3
    isplitl [H4]; · iexact H4
    isplitl [H5]; · iexact H5
    isplitl [H6]; · iexact H6
    isplitl [H7]
    · iexists f
      isplitl [H7]; · iexact H7
      ipureintro; exact hf7
    isplitl [H8]
    · iexists f8; iexact H8
    ipureintro; rfl
  iintro %acc H
  unfold TenantInv
  icases H with ⟨H1, H2, H3, H4, H5, H6, H7, H8, %_⟩
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Tenants

end Cert.Kernel.Body
-- ==== Proof.Bits.Rows.lean ====
/-
  The row arithmetic of the kernel: where a tenant's chunks start, how many there are, which rows a chunk's mask keeps; that
  every chunk's window fits (`fits`) when the sizes sum to the batch; and one induction (`tenants_rel`) through chunks and
  tenants by which a relation that holds of every value written holds of the whole result.
-/
module

public import proofs.«01_k».proof.Proof.Bits.Body
public import Idealize.ShloMosaic.Lib.Pointwise.Reshape

@[expose] public section

set_option maxRecDepth 8192

noncomputable section

namespace Cert.Kernel.Body

open Cert.Kernel Cert.Kernel.Gen
open Idealize.ShloMosaic Idealize.ShloMosaic.TcCoe

variable {F : FTy → Type} [FloatOps F]

/-! ## Words -/

theorem first_toNat (a : BitVec 32) (h : a.toNat ≤ 4608) : (first a).toNat = a.toNat / 16 * 16 := by
  have key : ∀ n : Fin 4609, (first (BitVec.ofNat 32 n.val)).toNat = n.val / 16 * 16 := by decide +kernel
  have := key ⟨a.toNat, by omega⟩
  simpa using this

/-- The number of 256-row chunks that cover `d` rows, as the kernel computes it. -/
def nchunks (d : BitVec 32) : BitVec 32 :=
  have v2335 : BitVec 32 := Scalar.subi (Scalar.addi d 256#32) 1#32
  Scalar.addi 0#32 (Scalar.muli (Scalar.divsi (Scalar.subi (Scalar.select (Scalar.andi
      (Scalar.cmpi .ne (Scalar.subi (Scalar.extui (Scalar.cmpi .sgt v2335 0#32)) (Scalar.extui (Scalar.cmpi .slt v2335 0#32)))
        (Scalar.subi (Scalar.extui (Scalar.cmpi .sgt 256#32 0#32)) (Scalar.extui (Scalar.cmpi .slt 256#32 0#32))))
      (Scalar.cmpi .ne (Scalar.remsi v2335 256#32) 0#32))
    (Scalar.subi (Scalar.divsi v2335 256#32) 1#32) (Scalar.divsi v2335 256#32)) 0#32) 1#32) 1#32)

theorem nchunks_toNat (d : BitVec 32) (h : d.toNat ≤ 4608) : (nchunks d).toNat = (d.toNat + 255) / 256 := by
  have key : ∀ n : Fin 4609, (nchunks (BitVec.ofNat 32 n.val)).toNat = (n.val + 255) / 256 := by decide +kernel
  have := key ⟨d.toNat, by omega⟩
  simpa using this

theorem stop_toNat (a v : BitVec 32) (h : a.toNat + 2 * v.toNat ≤ 4608) :
    (Scalar.addi a (Scalar.muli 2#32 v)).toNat = a.toNat + 2 * v.toNat := by
  show (a + 2#32 * v).toNat = _
  rw [BitVec.toNat_add, BitVec.toNat_mul]
  simp
  omega

theorem toInt_small (a : BitVec 32) (h : a.toNat ≤ 10000) : a.toInt = a.toNat := by
  rw [BitVec.toInt_eq_toNat_cond]; split <;> omega

theorem t2_loop_eq (a v : BitVec 32) :
    k0_t2_loop a v = ⟨0#32, nchunks (Scalar.subi (Scalar.addi a (Scalar.muli 2#32 v)) (first a)), 1#32⟩ := rfl

/-- The last row after a tenant, less the first row of its first chunk. -/
theorem span_toNat (a v : BitVec 32) (h : a.toNat + 2 * v.toNat ≤ 4608) :
    (Scalar.subi (Scalar.addi a (Scalar.muli 2#32 v)) (first a)).toNat = a.toNat + 2 * v.toNat - a.toNat / 16 * 16 := by
  have h1 := stop_toNat a v h
  have h2 := first_toNat a (by omega)
  show (Scalar.addi a (Scalar.muli 2#32 v) - first a).toNat = _
  rw [BitVec.toNat_sub_of_le (by rw [BitVec.le_def, h1, h2]; omega), h1, h2]

theorem t2_trips (a v : BitVec 32) (h : a.toNat + 2 * v.toNat ≤ 4608) :
    (k0_t2_loop a v).trips = (a.toNat + 2 * v.toNat - a.toNat / 16 * 16 + 255) / 256 := by
  have h3 := span_toNat a v h
  have h4 := nchunks_toNat _ (by rw [h3]; omega)
  rw [h3] at h4
  rw [t2_loop_eq]
  show Scf.trips _ _ _ = _
  unfold Scf.trips
  rw [toInt_small (nchunks _) (by omega), h4]
  simp
  omega

/-- The row chunk `k` of a tenant that starts at row `a` is written from. -/
def row (a : BitVec 32) (k : ℕ) : ℕ := min (a.toNat / 16 * 16 + 256 * k) 4352

theorem row_word (a v : BitVec 32) (h : a.toNat + 2 * v.toNat ≤ 4608) (k : Fin (k0_t2_loop a v).trips) :
    (Scalar.minsi (Scalar.addi (first a) (Scalar.muli (Scf.iv 0#32 1#32 k) 256#32)) 4352#32).toNat = row a k.val := by
  have hk : k.val < (a.toNat + 2 * v.toNat - a.toNat / 16 * 16 + 255) / 256 := lt_of_lt_of_eq k.isLt (t2_trips a v h)
  have h2 := first_toNat a (by omega)
  have h5 : (Scalar.addi (first a) (Scalar.muli (Scf.iv 0#32 1#32 k) 256#32)).toNat = a.toNat / 16 * 16 + 256 * k.val := by
    show (first a + (0#32 + BitVec.ofNat 32 k.val * 1#32) * 256#32).toNat = _
    simp [BitVec.toNat_add, BitVec.toNat_mul, h2]
    omega
  show (IntOp.minsi _ _).toNat = _
  unfold IntOp.minsi row
  have h6 : (4352#32 : BitVec 32).toInt = 4352 := rfl
  split
  · rename_i h7
    rw [BitVec.slt_iff_toInt_lt, toInt_small _ (by rw [h5]; omega), h5, h6] at h7
    rw [h5]; omega
  · rename_i h7
    rw [BitVec.slt_iff_toInt_lt, toInt_small _ (by rw [h5]; omega), h5, h6] at h7
    show 4352 = _; omega

theorem mult1_toNat (a v : BitVec 32) (h : a.toNat + 2 * v.toNat ≤ 4608) (k : Fin (k0_t2_loop a v).trips) :
    (k0_mult1 a v k).toNat = row a k.val := row_word a v h k

theorem off10_eq (a v : BitVec 32) (h : a.toNat + 2 * v.toNat ≤ 4608) (k : Fin (k0_t2_loop a v).trips) :
    k0_off10 a v k = ![row a k.val, 0] := by
  rw [← row_word a v h k]; rfl

theorem off9_eq (a v : BitVec 32) (h : a.toNat + 2 * v.toNat ≤ 4608) (k : Fin (k0_t2_loop a v).trips) :
    k0_off9 a v k = ![row a k.val, 0] := by
  rw [← row_word a v h k]; rfl

theorem row_le (a : BitVec 32) (k : ℕ) : row a k ≤ 4352 := by unfold row; omega

theorem row_dvd (a : BitVec 32) (k : ℕ) : 16 ∣ row a k := by unfold row; omega

theorem cond1_iff (a v : BitVec 32) (h : a.toNat + 2 * v.toNat ≤ 4608) : k0_cond1 a v = 1#1 ↔ 0 < v.toNat := by
  have h1 := stop_toNat a v h
  have h2 : a.slt (Scalar.addi a (Scalar.muli 2#32 v)) = decide (0 < v.toNat) := by
    rw [BitVec.slt_eq_decide, toInt_small a (by omega), toInt_small _ (by rw [h1]; omega), h1]
    congr 1; apply propext; omega
  show BitVec.ofBool (Scalar.extui (BitVec.ofBool (a.slt _)) != 0#32) = 1#1 ↔ _
  rw [h2]
  by_cases h3 : 0 < v.toNat
  · simp only [h3, decide_true, iff_true]; rfl
  · simp only [h3, decide_false, iff_false]; decide

/-- A tenant whose rows lie in the batch meets every side condition of its chunks. -/
theorem chk (a v : BitVec 32) (h : a.toNat + 2 * v.toNat ≤ 4608) : k0_chk1 a v := by
  have hno : ∀ k : Fin (k0_t3_loop a v).trips, False := fun k => by
    have h0 := t3_trips a v; have := k.isLt; omega
  refine ⟨fun _ => ?_, fun k _ => ?_, fun k _ => ?_, fun k _ => ?_, fun k _ hinb => ?_, fun _ => ?_, fun k => (hno k).elim, fun k => (hno k).elim,
    fun k => (hno k).elim, fun k => (hno k).elim⟩
  · have ht := t2_trips a v h
    show Scf.OK _ _ _
    refine ⟨?_, ?_⟩
    · exact (by decide : 0 < (1#32 : BitVec 32).toInt)
    · have : Scf.trips (k0_t2_loop a v).lb (k0_t2_loop a v).ub (k0_t2_loop a v).st = (k0_t2_loop a v).trips := rfl
      rw [this, ht, t2_loop_eq]
      simp
      omega
  · rw [mult1_toNat a v h]; exact row_dvd a _
  · rw [off9_eq a v h]
    have := row_le a k.val
    intro i; fin_cases i
    · show row a k.val + 256 ≤ 4608; omega
    · show 0 + 1536 ≤ 1536; omega
  · rw [off10_eq a v h]
    have := row_le a k.val
    intro i; fin_cases i
    · show row a k.val + 256 ≤ 4608; omega
    · show 0 + 1280 ≤ 1280; omega
  · refine .inr ⟨by decide, rfl, .inl ⟨?_, ?_⟩⟩
    · show 2 ∣ k0_off10 a v k 0
      rw [off10_eq a v h]
      have := row_dvd a k.val
      show 2 ∣ row a k.val
      omega
    · show (2 : ℕ) ∣ 256; decide
  · show Scf.OK _ _ _
    have h0 : Scf.trips (k0_t3_loop a v).lb (k0_t3_loop a v).ub (k0_t3_loop a v).st = 0 := t3_trips a v
    refine ⟨(by decide : 0 < (1#32 : BitVec 32).toInt), ?_⟩
    rw [h0]
    have := BitVec.toInt_lt (x := (k0_t3_loop a v).lb)
    simp only [Nat.cast_zero, zero_mul, add_zero]
    omega

/-! ## The sum of the sizes before a tenant -/

/-- The sum of the first `n` sizes. -/
def pre (x1 : Vec F S14 .i32) : ℕ → ℕ
  | 0 => 0
  | n + 1 => pre x1 n + if h : n < k0_t1_loop.trips then (size x1 ⟨n, h⟩).toNat else 0

theorem pre_succ (x1 : Vec F S14 .i32) (k : Fin k0_t1_loop.trips) : pre x1 (k.val + 1) = pre x1 k.val + (size x1 k).toNat := by
  rw [pre.eq_2]; congr 1; exact dif_pos k.isLt

theorem pre_mono (x1 : Vec F S14 .i32) {m n : ℕ} (h : m ≤ n) : pre x1 m ≤ pre x1 n := by
  induction h with
  | refl => exact Nat.le_refl _
  | step _ ih => exact ih.trans (by rw [pre.eq_2]; exact Nat.le_add_right _ _)

/-- The sizes, as naturals, sum to the batch. -/
def Sizes (x1 : Vec F S14 .i32) : Prop := pre x1 14 = 2304

theorem t1_trips : k0_t1_loop.trips = 14 := by decide

theorem start_toNat (x1 : Vec F S14 .i32) (hs : Sizes x1) : ∀ n, n ≤ 14 → (start x1 n).toNat = 2 * pre x1 n := by
  intro n
  induction n with
  | zero => intro _; rfl
  | succ n ih =>
    intro hn
    have hlt : n < k0_t1_loop.trips := by rw [t1_trips]; omega
    have h1 := start_succ x1 ⟨n, hlt⟩
    have h2 := pre_succ x1 ⟨n, hlt⟩
    have h3 : pre x1 (n + 1) ≤ 2304 := hs ▸ pre_mono x1 hn
    have h4 := ih (by omega)
    dsimp only at h1 h2
    rw [h1, stop_toNat _ _ (by rw [h4]; omega), h4, h2]; omega

theorem tenant_rows (x1 : Vec F S14 .i32) (hs : Sizes x1) (k : Fin k0_t1_loop.trips) :
    (start x1 k.val).toNat + 2 * (size x1 k).toNat ≤ 4608 := by
  have hk : k.val < 14 := lt_of_lt_of_eq k.isLt t1_trips
  have h1 := start_toNat x1 hs k.val (by omega)
  have h2 := pre_succ x1 k
  have h3 : pre x1 (k.val + 1) ≤ 2304 := hs ▸ pre_mono x1 (by omega)
  omega

theorem fits (x1 : Vec F S14 .i32) (hs : Sizes x1) : Fits x1 := fun k => chk _ _ (tenant_rows x1 hs k)

/-! ## The payload, element by element -/

/-- The value a chunk computes for its rows, in f32: the base product scaled by channel, plus the scaled product with the signs. -/
def freshF (xs : Vec F S256x1536 .bf16) (x4 : Vec F S1536x1280 .fp8e4m3) (x8 : Vec F S1536x1280 .bf16) (x5 : Vec F S1x1280 .f32)
    (sc : Elt F .f32) : FVec F S256x1280 .f32 :=
  have v2366 : FVec F S256x1536 .bf16 := shapeCast S256x1536 xs shapeCasts_S256x1536_S256x1536
  have v2368 : FVec F S256x1280 .f32 := matmul dot_S256x1536_S1536x1280_S256x1280_1_0_0_1_n_n none v2366 x4 (constant S256x1280 .f32 0x00000000#32)
  have v2370 : FVec F S256x1280 .f32 := matmul dot_S256x1536_S1536x1280_S256x1280_1_0_0_1_n_n none v2366 x8 (constant S256x1280 .f32 0x00000000#32)
  have v2373 : FVec F S256x1280 .f32 := broadcastTo S256x1280 (shapeCast S1x1280 x5 shapeCasts_S1x1280_S1x1280) broadcasts_S1x1280_S256x1280
  addf (mulf v2368 v2373) (mulf (broadcast S256x1280 sc) v2370)

/-- The same in bf16. -/
def fresh (xs : Vec F S256x1536 .bf16) (x4 : Vec F S1536x1280 .fp8e4m3) (x8 : Vec F S1536x1280 .bf16) (x5 : Vec F S1x1280 .f32)
    (sc : Elt F .f32) : FVec F S256x1280 .bf16 := truncf .bf16 (freshF xs x4 x8 x5 sc) bitsLt_bf16_f32

/-- A row the mask leaves out: what was there, in f32, -/
def keptF (old : Vec F S256x1280 .bf16) : FVec F S256x1280 .f32 :=
  extf .f32 (shapeCast S256x1280 old shapeCasts_S256x1280_S256x1280 : FVec F S256x1280 .bf16) bitsLt_bf16_f32

/-- and back. -/
def kept (old : Vec F S256x1280 .bf16) : FVec F S256x1280 .bf16 := truncf .bf16 (keptF old) bitsLt_bf16_f32

/-- The word of the row chunk `k` starts at. -/
def roww (a v : BitVec 32) (k : Fin (k0_t2_loop a v).trips) : BitVec 32 :=
  Scalar.minsi (Scalar.addi (first a) (Scalar.muli (Scf.iv 0#32 1#32 k) 256#32)) 4352#32

/-- The mask of chunk `k`: the tenant's rows. -/
def mask (a v : BitVec 32) (k : Fin (k0_t2_loop a v).trips) : IVec S256x1280 1 :=
  andi (cmpi .sge (addi (broadcast S256x1280 (roww a v k)) (iota .tc S256x1280 32 [0] iota_S256x1280_d0_w32)) (broadcast S256x1280 a))
    (cmpi .slt (addi (broadcast S256x1280 (roww a v k)) (iota .tc S256x1280 32 [0] iota_S256x1280_d0_w32))
      (broadcast S256x1280 (Scalar.addi a (Scalar.muli 2#32 v))))

theorem mask_apply (a v : BitVec 32) (h : a.toNat + 2 * v.toNat ≤ 4608) (k : Fin (k0_t2_loop a v).trips) (j : S256x1280.Idx) :
    mask a v k j = BitVec.ofBool (decide (a.toNat ≤ row a k.val + (j 0).val ∧ row a k.val + (j 0).val < a.toNat + 2 * v.toNat)) := by
  have hr : (roww a v k).toNat = _ := row_word a v h k
  have hst := stop_toNat a v h
  have hrl := row_le a k.val
  have hj : (j 0).val < 256 := (j 0).isLt
  have hi : iota .tc S256x1280 32 [0] iota_S256x1280_d0_w32 j = BitVec.ofNat 32 (j 0).val := by
    show BitVec.ofNat 32 (0 * 256 + (j 0).val) = _
    rw [Nat.zero_mul, Nat.zero_add]
  have hv : (roww a v k + BitVec.ofNat 32 (j 0).val).toNat = row a k.val + (j 0).val := by
    rw [BitVec.toNat_add, hr]; simp; omega
  show BitVec.ofBool (BitVec.sle a (roww a v k + iota .tc S256x1280 32 [0] iota_S256x1280_d0_w32 j))
    &&& BitVec.ofBool (BitVec.slt (roww a v k + iota .tc S256x1280 32 [0] iota_S256x1280_d0_w32 j) (Scalar.addi a (Scalar.muli 2#32 v))) = _
  rw [hi, BitVec.sle_eq_decide, BitVec.slt_eq_decide, toInt_small a (by omega), toInt_small _ (by rw [hv]; omega),
    toInt_small (Scalar.addi a _) (by rw [hst]; omega), hv, hst, BitVec.ofBool_and_ofBool, Bool.decide_and]
  congr 2
  · apply decide_eq_decide.mpr; omega
  · apply decide_eq_decide.mpr; omega

theorem pay1_apply (a v : BitVec 32) (h : a.toNat + 2 * v.toNat ≤ 4608) (sc : Elt F .f32) (k : Fin (k0_t2_loop a v).trips)
    (xs : Vec F S256x1536 .bf16) (x4 : Vec F S1536x1280 .fp8e4m3) (x8 : Vec F S1536x1280 .bf16) (x5 : Vec F S1x1280 .f32)
    (old : Vec F S256x1280 .bf16) (j : S256x1280.Idx) :
    k0_pay1 a v (first a) sc k xs x4 x8 x5 old j
      = if a.toNat ≤ row a k.val + (j 0).val ∧ row a k.val + (j 0).val < a.toNat + 2 * v.toNat then fresh xs x4 x8 x5 sc j else kept old j := by
  have hp : k0_pay1 a v (first a) sc k xs x4 x8 x5 old j
      = FloatOps.truncf .bf16 bitsLt_bf16_f32 (Scalar.select (mask a v k j) (freshF xs x4 x8 x5 sc j) (keptF old j)) := rfl
  rw [hp, mask_apply a v h k j]
  by_cases hc : a.toNat ≤ row a k.val + (j 0).val ∧ row a k.val + (j 0).val < a.toNat + 2 * v.toNat
  · rw [if_pos hc, decide_eq_true hc]; rfl
  · rw [if_neg hc, decide_eq_false hc]; rfl

/-! ## One induction through chunks and tenants -/

section Rel

variable (S : S4608x1280.Idx → Elt F .bf16 → Elt F .bf16 → Prop)

/-- A relation of an element to an element that holds of what a chunk computes on the rows of its mask, and survives f32 and
    back, holds after the chunk wherever it held, and on the rows of its mask. -/
theorem chunk_rel (x3 : Vec F S4608x1536 .bf16) (x4 : Vec F S1536x1280 .fp8e4m3) (x5 : Vec F S1x1280 .f32) (x8 : Vec F S1536x1280 .bf16)
    (a v : BitVec 32) (sc : Elt F .f32) (hw : k0_chk1 a v) (h1 : k0_cond1 a v = 1#1) (h : a.toNat + 2 * v.toNat ≤ 4608)
    (hnew : ∀ (k : Fin (k0_t2_loop a v).trips) (y : S4608x1280.Idx) (j : S256x1280.Idx), (y 0).val = row a k.val + (j 0).val → (y 1).val = (j 1).val →
      a.toNat ≤ (y 0).val → (y 0).val < a.toNat + 2 * v.toNat →
      S y (fresh (View.ld x3 (Rect.unit (s := S4608x1536) (k0_off9 a v k) S256x1536.size (k0_off9_inb a v hw k h1))) x4 x8 x5 sc j)
        (fresh (View.ld x3 (Rect.unit (s := S4608x1536) (k0_off9 a v k) S256x1536.size (k0_off9_inb a v hw k h1))) x4 x8 x5 sc j))
    (hkeep : ∀ y p q, S y p q → S y (FloatOps.truncf .bf16 bitsLt_bf16_f32 (FloatOps.extf .f32 bitsLt_bf16_f32 p))
      (FloatOps.truncf .bf16 bitsLt_bf16_f32 (FloatOps.extf .f32 bitsLt_bf16_f32 q)))
    (k : Fin (k0_t2_loop a v).trips) (A B : Vec F S4608x1280 .bf16) (y : S4608x1280.Idx)
    (hy : S y (A y) (B y) ∨ (a.toNat ≤ (y 0).val ∧ (y 0).val < a.toNat + 2 * v.toNat ∧ row a k.val ≤ (y 0).val ∧ (y 0).val < row a k.val + 256)) :
    S y (chunk x3 x4 x5 x8 a v sc hw h1 k A y) (chunk x3 x4 x5 x8 a v sc hw h1 k B y) := by
  have ho := off10_eq a v h k
  unfold chunk VecWindow.put
  by_cases hin : ∀ i, k0_off10 a v k i ≤ (y i).val ∧ (y i).val < k0_off10 a v k i + S256x1280.size i
  · rw [dif_pos hin, dif_pos hin, pay1_apply a v h, pay1_apply a v h]
    have h0 : row a k.val ≤ (y 0).val := by have := (hin 0).1; rw [ho] at this; exact this
    have hj0 : (y 0).val = row a k.val + ((Rect.unitLocal (s := S4608x1280) (off := k0_off10 a v k) (size := S256x1280.size) y hin) 0).val := by
      rw [Rect.unitLocal_val, ho]
      show (y 0).val = row a k.val + ((y 0).val - row a k.val); omega
    have hj1 : (y 1).val = ((Rect.unitLocal (s := S4608x1280) (off := k0_off10 a v k) (size := S256x1280.size) y hin) 1).val := by
      rw [Rect.unitLocal_val, ho]
      show (y 1).val = (y 1).val - 0; omega
    generalize hj : Rect.unitLocal (s := S4608x1280) (off := k0_off10 a v k) (size := S256x1280.size) y hin = j at hj0 hj1
    by_cases hc : a.toNat ≤ row a k.val + (j 0).val ∧ row a k.val + (j 0).val < a.toNat + 2 * v.toNat
    · rw [if_pos hc, if_pos hc]
      exact hnew k y j hj0 hj1 (by omega) (by omega)
    · rw [if_neg hc, if_neg hc]
      have hS : S y (A y) (B y) := hy.resolve_right (by omega)
      have hold : ∀ C : Vec F S4608x1280 .bf16, kept (View.ld C (Rect.unit (s := S4608x1280) (k0_off10 a v k) S256x1280.size (k0_off10_inb a v hw k h1))) j
          = FloatOps.truncf .bf16 bitsLt_bf16_f32 (FloatOps.extf .f32 bitsLt_bf16_f32 (C y)) := fun C => by
        unfold kept keptF
        rw [shapeCast_id]
        show FloatOps.truncf .bf16 bitsLt_bf16_f32 (FloatOps.extf .f32 bitsLt_bf16_f32
          (C ((Rect.unit (s := S4608x1280) (k0_off10 a v k) S256x1280.size (k0_off10_inb a v hw k h1)).emb j))) = _
        congr 3
        funext i
        apply Fin.ext
        show k0_off10 a v k i + 1 * (j i).val = (y i).val
        rw [ho]
        fin_cases i
        · show row a k.val + 1 * (j 0).val = (y 0).val; omega
        · show 0 + 1 * (j 1).val = (y 1).val; omega
      rw [hold, hold]
      exact hkeep y _ _ hS
  · rw [dif_neg hin, dif_neg hin]
    refine hy.resolve_right fun hr => hin fun i => ?_
    rw [ho]
    have hy1 : (y 1).val < 1280 := (y 1).isLt
    fin_cases i
    · show row a k.val ≤ (y 0).val ∧ (y 0).val < row a k.val + 256; omega
    · show 0 ≤ (y 1).val ∧ (y 1).val < 0 + 1280; omega

/-- The same through the first `n` chunks of a tenant. -/
theorem chunks_rel (x3 : Vec F S4608x1536 .bf16) (x4 : Vec F S1536x1280 .fp8e4m3) (x5 : Vec F S1x1280 .f32) (x8 : Vec F S1536x1280 .bf16)
    (a v : BitVec 32) (sc : Elt F .f32) (hw : k0_chk1 a v) (h1 : k0_cond1 a v = 1#1) (h : a.toNat + 2 * v.toNat ≤ 4608)
    (hnew : ∀ (k : Fin (k0_t2_loop a v).trips) (y : S4608x1280.Idx) (j : S256x1280.Idx), (y 0).val = row a k.val + (j 0).val → (y 1).val = (j 1).val →
      a.toNat ≤ (y 0).val → (y 0).val < a.toNat + 2 * v.toNat →
      S y (fresh (View.ld x3 (Rect.unit (s := S4608x1536) (k0_off9 a v k) S256x1536.size (k0_off9_inb a v hw k h1))) x4 x8 x5 sc j)
        (fresh (View.ld x3 (Rect.unit (s := S4608x1536) (k0_off9 a v k) S256x1536.size (k0_off9_inb a v hw k h1))) x4 x8 x5 sc j))
    (hkeep : ∀ y p q, S y p q → S y (FloatOps.truncf .bf16 bitsLt_bf16_f32 (FloatOps.extf .f32 bitsLt_bf16_f32 p))
      (FloatOps.truncf .bf16 bitsLt_bf16_f32 (FloatOps.extf .f32 bitsLt_bf16_f32 q)))
    (A B : Vec F S4608x1280 .bf16) (n : ℕ) (hn : n ≤ (k0_t2_loop a v).trips) (y : S4608x1280.Idx)
    (hy : S y (A y) (B y) ∨ (a.toNat ≤ (y 0).val ∧ (y 0).val < a.toNat + 2 * v.toNat ∧ (y 0).val < a.toNat / 16 * 16 + 256 * n)) :
    S y (chunks x3 x4 x5 x8 a v sc hw h1 A n y) (chunks x3 x4 x5 x8 a v sc hw h1 B n y) := by
  induction n with
  | zero => exact hy.resolve_right (by omega)
  | succ n ih =>
    have hs := fun C => chunks_succ x3 x4 x5 x8 a v sc hw h1 C ⟨n, hn⟩
    dsimp only at hs
    rw [hs, hs]
    refine chunk_rel S x3 x4 x5 x8 a v sc hw h1 h hnew hkeep ⟨n, hn⟩ _ _ y ?_
    have hy0 : (y 0).val < 4608 := (y 0).isLt
    by_cases hlt : S y (A y) (B y) ∨ (y 0).val < a.toNat / 16 * 16 + 256 * n
    · refine .inl (ih (by omega) (hlt.elim .inl fun h2 => hy.elim .inl fun h3 => .inr ⟨h3.1, h3.2.1, h2⟩))
    · rw [not_or] at hlt
      have h3 := hy.resolve_left hlt.1
      refine .inr ⟨h3.1, h3.2.1, ?_, ?_⟩
      · show row a n ≤ _; unfold row; omega
      · show _ < row a n + 256; unfold row; omega

/-- The same through the first `n` tenants: on all rows before tenant `n`'s. -/
theorem tenants_rel (x1 : Vec F S14 .i32) (x2 : Vec F S14 .f32) (x3 : Vec F S4608x1536 .bf16) (x4 : Vec F S1536x1280 .fp8e4m3) (x5 : Vec F S1x1280 .f32)
    (x6 : Vec F S14x192x1280 .i8) (hf : Fits x1) (hsz : Sizes x1)
    (hnew : ∀ (t : Fin k0_t1_loop.trips) (h1 : k0_cond1 (start x1 t.val) (size x1 t) = 1#1) (k : Fin (k0_t2_loop (start x1 t.val) (size x1 t)).trips)
      (y : S4608x1280.Idx) (j : S256x1280.Idx), (y 0).val = row (start x1 t.val) k.val + (j 0).val → (y 1).val = (j 1).val →
      (start x1 t.val).toNat ≤ (y 0).val → (y 0).val < (start x1 t.val).toNat + 2 * (size x1 t).toNat →
      S y (fresh (View.ld x3 (Rect.unit (s := S4608x1536) (k0_off9 (start x1 t.val) (size x1 t) k) S256x1536.size (k0_off9_inb _ _ (hf t) k h1)))
          x4 (signs t x6) x5 (scale x2 t) j)
        (fresh (View.ld x3 (Rect.unit (s := S4608x1536) (k0_off9 (start x1 t.val) (size x1 t) k) S256x1536.size (k0_off9_inb _ _ (hf t) k h1)))
          x4 (signs t x6) x5 (scale x2 t) j))
    (hkeep : ∀ y p q, S y p q → S y (FloatOps.truncf .bf16 bitsLt_bf16_f32 (FloatOps.extf .f32 bitsLt_bf16_f32 p))
      (FloatOps.truncf .bf16 bitsLt_bf16_f32 (FloatOps.extf .f32 bitsLt_bf16_f32 q)))
    (A B : Vec F S4608x1280 .bf16) (n : ℕ) (hn : n ≤ 14) (y : S4608x1280.Idx) (hy : (y 0).val < 2 * pre x1 n) :
    S y (tenants x1 x2 x3 x4 x5 x6 hf A n y) (tenants x1 x2 x3 x4 x5 x6 hf B n y) := by
  induction n with
  | zero => exact absurd hy (Nat.not_lt_zero _)
  | succ n ih =>
    have hlt : n < k0_t1_loop.trips := by rw [t1_trips]; omega
    have hs := fun C => tenants_succ x1 x2 x3 x4 x5 x6 hf C ⟨n, hlt⟩
    have hp := pre_succ x1 ⟨n, hlt⟩
    have hst := start_toNat x1 hsz n (by omega)
    have hr := tenant_rows x1 hsz ⟨n, hlt⟩
    dsimp only at hs hp hr
    rw [hs, hs]
    unfold tenant
    dsimp only
    by_cases h1 : k0_cond1 (start x1 n) (size x1 ⟨n, hlt⟩) = 1#1
    · rw [dif_pos h1, dif_pos h1]
      refine chunks_rel S x3 x4 x5 _ _ _ _ _ h1 hr (fun k y j => hnew ⟨n, hlt⟩ h1 k y j) hkeep _ _ _ le_rfl y ?_
      by_cases hy' : (y 0).val < 2 * pre x1 n
      · exact .inl (ih (by omega) hy')
      · refine .inr ⟨by omega, by omega, ?_⟩
        have := t2_trips _ _ hr
        rw [this]
        omega
    · rw [dif_neg h1, dif_neg h1]
      have h0 : ¬ 0 < (size x1 ⟨n, hlt⟩).toNat := fun h => h1 ((cond1_iff _ _ hr).2 h)
      exact ih (by omega) (by omega)

end Rel

/-- The whole result does not depend on what the buffer held before: every row is some tenant's. -/
theorem tenants_indep (x1 : Vec F S14 .i32) (x2 : Vec F S14 .f32) (x3 : Vec F S4608x1536 .bf16) (x4 : Vec F S1536x1280 .fp8e4m3) (x5 : Vec F S1x1280 .f32)
    (x6 : Vec F S14x192x1280 .i8) (hf : Fits x1) (hsz : Sizes x1) (A B : Vec F S4608x1280 .bf16) :
    tenants x1 x2 x3 x4 x5 x6 hf A 14 = tenants x1 x2 x3 x4 x5 x6 hf B 14 := by
  funext y
  have hy0 : (y 0).val < 4608 := (y 0).isLt
  exact tenants_rel (fun _ p q => p = q) x1 x2 x3 x4 x5 x6 hf hsz (fun _ _ _ _ _ _ _ _ _ => rfl) (fun _ _ _ h => by rw [h]) A B 14 le_rfl y
    (by rw [hsz]; omega)

end Cert.Kernel.Body
-- ==== Proof.Bits.Run.lean ====
/-
  The run of the whole program around the kernel: the proof data (every operand's block left in place, the result's block what
  the tenants write), the body's obligation at every grid point, and the run of @main — for sizes that sum to the batch.
-/
module

public import proofs.«01_k».proof.Proof.Bits.Rows
public import proofs.«01_k».proof.Proof.Gen.Kernel.Frame
public import Idealize.ShloMosaic.Lib.Claim

@[expose] public section

set_option maxRecDepth 8192

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on memrefs at given contents -/

set_option maxHeartbeats 800000 in
/-- The body from the operands' contents, anything in the result's memref and in the scratch: the operands unchanged, the
    result's memref at what the tenants write. -/
theorem sound_kernel (c : Dev nD) (E : Set ℕ) (i : grid0.Coords) (arg1 : Memref sig .tc .smem S14 .i32) (harg1 : arg1.IsWhole) (arg2 : Memref sig .tc .smem S14 .f32) (harg2 : arg2.IsWhole) (arg3 : Memref sig .tc .vmem S4608x1536 .bf16) (harg3 : arg3.IsWhole) (arg4 : Memref sig .tc .vmem S1536x1280 .fp8e4m3) (harg4 : arg4.IsWhole) (arg5 : Memref sig .tc .vmem S1x1280 .f32) (harg5 : arg5.IsWhole) (arg6 : Memref sig .tc .vmem S14x192x1280 .i8) (harg6 : arg6.IsWhole) (arg7 : Memref sig .tc .vmem S4608x1280 .bf16) (harg7 : arg7.IsWhole) (arg8 : Memref sig .tc .vmem S1536x1280 .bf16) (harg8 : arg8.IsWhole)
    (x1 : Vec F S14 .i32) (x2 : Vec F S14 .f32) (x3 : Vec F S4608x1536 .bf16) (x4 : Vec F S1536x1280 .fp8e4m3) (x5 : Vec F S1x1280 .f32)
    (x6 : Vec F S14x192x1280 .i8) (hsz : Sizes x1) (d7 : Vec F S4608x1280 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (tenants x1 x2 x3 x4 x5 x6 (fits x1 hsz) d7 14)
            ∗ (∃ d, owns (c : Thread nD τ) arg8 fullShare d)) -∗ K ⟨⟩))
      ⊢ wp frame (wpE (defs₀ (F := F)) Variants.none c none) E (cc0_bitdelta i arg1 harg1 arg2 harg2 arg3 harg3 arg4 harg4 arg5 harg5 arg6 harg6 arg7 harg7 arg8 harg8) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d, %f7, %hf7, H7⟩, ⟨%d8, %f8, -, H8⟩, Hk⟩
  subst hf1 hf2 hf3 hf4 hf5 hf6
  iapply (exec_cut_last _ _ _ (body_run i arg1 harg1 arg2 harg2 arg3 harg3 arg4 harg4 arg5 harg5 arg6 harg6 arg7 harg7 arg8 harg8 Variants.none c none E f1 f2 f3 f4 f5 f6 (fits _ hsz) d)) $$ [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]
    · iexists f7
      isplitl [H7]; · iexact H7
      ipureintro; exact hf7
    iexists f8; iexact H8
  iintro %_ H
  icases H with ⟨H1, H2, H3, H4, H5, H6, ⟨%g7, H7, %hg7⟩, ⟨%g8, H8⟩⟩
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists g7; isplitr
    · ipureintro; rw [hg7]; exact tenants_indep _ _ _ _ _ _ _ hsz _ _
    iexact H7
  iexists _, g8; isplitr; · ipureintro; rfl
  iexact H8

/-! ## The proof data -/

variable (m : (ℓ : Loc nD τ sig) → Buf (Elt F) ℓ) (ρ : Dev nD → PrngReg)

/-- At every point, the sizes the kernel reads sum to the batch. -/
def SizesOK : Prop := ∀ (c : Dev nD) (t : Fin cfg0.N), Sizes (F := F) (iblk m c 0 t)

variable (hP : SizesOK m)

/-- What the body leaves in the result's buffer at point `t`. -/
def out (c : Dev nD) (t : Fin cfg0.N) : Vec F S4608x1280 .bf16 :=
  tenants (iblk m c 0 t) (iblk m c 1 t) (iblk m c 2 t) (iblk m c 3 t) (iblk m c 4 t) (iblk m c 5 t) (fits _ (hP c t))
    (fun _ => (FloatOps.ofBits .bf16 0#16)) 14

/-- The proof data: the arrays as the region finds them; after the body each operand's buffer at its block and the result's at `out`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out m hP c t
  Φ _ := Pipeline.ΦA spec0 c
  q _ := fullShare
  owed _ := 0

theorem A_eq (c : Dev nD) (w : Fin cfg0.W) : (dats m hP 0 c).A w = V m c (Pipeline.arrRef spec0 w) := by
  dsimp only [dats]

theorem after0_0 (c : Dev nD) (t : Fin cfg0.N) : (dats m hP 0 c).after 0 t = iblk m c 0 t := by dsimp only [dats]
theorem after0_1 (c : Dev nD) (t : Fin cfg0.N) : (dats m hP 0 c).after 1 t = iblk m c 1 t := by dsimp only [dats]
theorem after0_2 (c : Dev nD) (t : Fin cfg0.N) : (dats m hP 0 c).after 2 t = iblk m c 2 t := by dsimp only [dats]
theorem after0_3 (c : Dev nD) (t : Fin cfg0.N) : (dats m hP 0 c).after 3 t = iblk m c 3 t := by dsimp only [dats]
theorem after0_4 (c : Dev nD) (t : Fin cfg0.N) : (dats m hP 0 c).after 4 t = iblk m c 4 t := by dsimp only [dats]
theorem after0_5 (c : Dev nD) (t : Fin cfg0.N) : (dats m hP 0 c).after 5 t = iblk m c 5 t := by dsimp only [dats]
theorem after0_6 (c : Dev nD) (t : Fin cfg0.N) : (dats m hP 0 c).after 6 t = out m hP c t := by dsimp only [dats]
theorem before0_0 (c : Dev nD) (t : Fin cfg0.N) (d) : (dats m hP 0 c).before 0 t d = iblk m c 0 t :=
  before0_0_of m (dats m hP 0 c) (A_eq m hP c 0) (after0_0 m hP c) t d
theorem before0_1 (c : Dev nD) (t : Fin cfg0.N) (d) : (dats m hP 0 c).before 1 t d = iblk m c 1 t :=
  before0_1_of m (dats m hP 0 c) (A_eq m hP c 1) (after0_1 m hP c) t d
theorem before0_2 (c : Dev nD) (t : Fin cfg0.N) (d) : (dats m hP 0 c).before 2 t d = iblk m c 2 t :=
  before0_2_of m (dats m hP 0 c) (A_eq m hP c 2) (after0_2 m hP c) t d
theorem before0_3 (c : Dev nD) (t : Fin cfg0.N) (d) : (dats m hP 0 c).before 3 t d = iblk m c 3 t :=
  before0_3_of m (dats m hP 0 c) (A_eq m hP c 3) (after0_3 m hP c) t d
theorem before0_4 (c : Dev nD) (t : Fin cfg0.N) (d) : (dats m hP 0 c).before 4 t d = iblk m c 4 t :=
  before0_4_of m (dats m hP 0 c) (A_eq m hP c 4) (after0_4 m hP c) t d
theorem before0_5 (c : Dev nD) (t : Fin cfg0.N) (d) : (dats m hP 0 c).before 5 t d = iblk m c 5 t :=
  before0_5_of m (dats m hP 0 c) (A_eq m hP c 5) (after0_5 m hP c) t d

/-- What the body is given at point `t`, -/
def bodyPre (c : Dev nD) (t : Fin cfg0.N) : sProp 𝕄 :=
  iprop((dats m hP 0 c).Φ t.castSucc ∗ (dats m hP 0 c).owesAt () t.castSucc
        ∗ (∃ d, owns (c : Thread nD τ) (st0_0 t) fullShare ((dats m hP 0 c).before 0 t d))
    ∗ (∃ d, owns (c : Thread nD τ) (st0_1 t) fullShare ((dats m hP 0 c).before 1 t d))
    ∗ (∃ d, owns (c : Thread nD τ) (st0_2 t) fullShare ((dats m hP 0 c).before 2 t d))
    ∗ (∃ d, owns (c : Thread nD τ) (st0_3 t) fullShare ((dats m hP 0 c).before 3 t d))
    ∗ (∃ d, owns (c : Thread nD τ) (st0_4 t) fullShare ((dats m hP 0 c).before 4 t d))
    ∗ (∃ d, owns (c : Thread nD τ) (st0_5 t) fullShare ((dats m hP 0 c).before 5 t d))
    ∗ (∃ d, owns (c : Thread nD τ) (st0_6 t) fullShare ((dats m hP 0 c).before 6 t d)))

/-- and what it returns. -/
def bodyPost (c : Dev nD) (t : Fin cfg0.N) : sProp 𝕄 :=
  iprop((dats m hP 0 c).Φ t.succ ∗ (dats m hP 0 c).owesAt () t.succ
        ∗ owns (c : Thread nD τ) (st0_0 t) fullShare ((dats m hP 0 c).after 0 t)
    ∗ owns (c : Thread nD τ) (st0_1 t) fullShare ((dats m hP 0 c).after 1 t)
    ∗ owns (c : Thread nD τ) (st0_2 t) fullShare ((dats m hP 0 c).after 2 t)
    ∗ owns (c : Thread nD τ) (st0_3 t) fullShare ((dats m hP 0 c).after 3 t)
    ∗ owns (c : Thread nD τ) (st0_4 t) fullShare ((dats m hP 0 c).after 4 t)
    ∗ owns (c : Thread nD τ) (st0_5 t) fullShare ((dats m hP 0 c).after 5 t)
    ∗ owns (c : Thread nD τ) (st0_6 t) fullShare ((dats m hP 0 c).after 6 t))

/-- The scratch's points-to is its memref owned whole, one way -/
theorem scratch_in (c : Dev nD) (f : Buf (Elt F) ((c : Thread nD τ).loc cc0_scratch0)) :
    ((((c : Thread nD τ).loc cc0_scratch0) ↦{fullShare} f : sProp 𝕄)) ⊢ iprop(∃ d, owns (c : Thread nD τ) (Memref.whole cc0_scratch0) fullShare d) := by
  iintro H
  iexists f
  rw [owns_whole]
  iexact H

/-- and the other. -/
theorem scratch_out (c : Dev nD) : iprop(∃ d, owns (c : Thread nD τ) (Memref.whole cc0_scratch0) fullShare d)
    ⊢ (iprop(∃ f : Buf (Elt F) ((c : Thread nD τ).loc cc0_scratch0), ((c : Thread nD τ).loc cc0_scratch0) ↦{fullShare} f) : sProp 𝕄) := by
  simp only [owns_whole]
  exact .rfl

set_option maxHeartbeats 800000 in
/-- The body at any point: the operands' memrefs hold their blocks, the scratch is anything. -/
theorem sound_body (c : Dev nD) (t : Fin cfg0.N) :
    bodyPre m hP c t ⊢ wp frame (wpE (defs₀ (F := F)) Variants.none c none) Set.univ (bodyAt0 t) (fun _ => bodyPost m hP c t) := by
  unfold bodyPre bodyPost bodyAt0
  simp only [before0_0, before0_1, before0_2, before0_3, before0_4, before0_5]
  rw [show (dats m hP 0 c).Φ t.succ = (dats m hP 0 c).Φ t.castSucc from rfl,
    show (dats m hP 0 c).owesAt () t.succ = (dats m hP 0 c).owesAt () t.castSucc from rfl,
    after0_0, after0_1, after0_2, after0_3, after0_4, after0_5, after0_6,
    show (dats m hP 0 c).Φ t.castSucc = Pipeline.ΦA spec0 c from rfl]
  unfold Pipeline.ΦA
  rw [scopedRest0_eq]
  iintro ⟨⟨⟨%fs, Hs⟩, Hr⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ _ _ (iblk m c 0 t) (iblk m c 1 t) (iblk m c 2 t) (iblk m c 3 t) (iblk m c 4 t) (iblk m c 5 t)
    (hP c t) (fun _ => FloatOps.ofBits .bf16 0#16) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [Hs]
  · iapply (scratch_in c fs); iexact Hs
  iintro ⟨H0, H1, H2, H3, H4, H5, H6, Hs⟩
  isplitl [Hs Hr]
  · isplitl [Hs]
    · iapply (scratch_out c); iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m hP 0 c) (defs₀ (F := F)) Variants.none () Set.univ := fun t => by
  rw [bigSep_W0, bigSep_W0, defs₀_row]
  exact triple_restated (sound_body m hP c t) rfl .rfl fun _ => .rfl

/-! ## The run -/

set_option backward.isDefEq.respectTransparency.types false in
set_option maxHeartbeats 800000 in
/-- THE RUN of @main: every weakly fair execution terminates, every final state has every array of the pipeline at what the
    proof data give, every other buffer as the lines after the region leave it, and every semaphore counter at zero. -/
theorem run_main_quiescent : θ_run defs (onTc (τ := τ) (main (F := F))) (s₀ m ρ) (fun r => (Pipeline.FramePost cfgs (dats m hP) 0 (Pipeline.afterTail₀ cfgs (dats m hP) 0 (V0 m) [hostOps1])) r ∧ r.2.sem = fun _ => 0) :=
  Pipeline.θ_run_frame_around (Q' := _) cfgs (dats m hP) (0 : Fin 1) launch0 defs₀ Variants.none m ρ main
    (hbody := fun c => (body_obligation m hP c).loose) (hshare := fun c => (dats m hP 0 c).share_full fun _ => rfl)
    (howed := fun _ _ => rfl) (V₀ := V0 m) (opss := [hostOps1]) (hsub := sfx_sub) (hfresh := sfx_fresh) (hkeep := sfx_keeps)
    (hmain := hmain m Variants.none) (hA := A_eq m hP) (hΦ := fun _ _ => rfl)

include hP in
/-- THE FRAME: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  have h := run_main_quiescent m ρ hP
  exact θ_run_and (frame_of m ρ (dats m hP) (A_eq m hP) ((θ_run defs _ _).mono (fun _ h => h.1) h)) ((θ_run defs _ _).mono (fun _ h => h.2) h)

end Cert.Kernel.Body
-- ==== Proof.Bits.Blocks.lean ====
/-
  The blocks the kernel reads, as the argument arrays; and the precondition as a fact about the sizes the kernel reads.
-/
module

public import proofs.«01_k».proof.Proof.Bits.Run
public import proofs.«01_k».proof.Proof.Pre
public import Idealize.ShloMosaic.Lib.Pipeline.ValueKit

@[expose] public section

set_option maxRecDepth 16384

noncomputable section

namespace Cert.Kernel.Body

open Cert.Kernel Cert.Kernel.Gen Idealize.ShloMosaic Idealize.ShloMosaic.TcCoe Idealize.SL.Sem
open Idealize.ShloMosaic.ValueIdx (ix1 ix2 ix3)

variable {F : FTy → Type} [FloatOps F]

theorem off1_eq (k : Fin k0_t1_loop.trips) : k0_off1 k = ![k.val] := by
  revert k; decide +kernel

theorem size_eq (x1 : Vec F S14 .i32) (k : Fin k0_t1_loop.trips) : (size x1 k).toNat = Cert.Sizes.at' x1 k.val := by
  have hk : k.val < 14 := lt_of_lt_of_eq k.isLt t1_trips
  unfold Cert.Sizes.at'
  rw [dif_pos hk]
  unfold size
  refine congrArg (fun i => BitVec.toNat (x1 i)) (funext fun a => Fin.ext ?_)
  match a with
  | ⟨0, _⟩ =>
    show k0_off1 k 0 + 1 * 0 = k.val
    rw [off1_eq]; rfl

/-- The kernel's sum of the first sizes is the sum of the first sizes. -/
theorem pre_eq (x1 : Vec F S14 .i32) (n : ℕ) (hn : n ≤ 14) : pre x1 n = Cert.Sizes.upto x1 n := by
  induction n with
  | zero => rfl
  | succ n ih =>
    rw [pre.eq_2, dif_pos (lt_of_lt_of_eq hn t1_trips.symm), Cert.Sizes.upto_succ, ih (by omega), size_eq]

/-! ## The index maps -/

theorem idx : ∀ t : Fin cfg0.N, win0_0.index t = ![0] ∧ win0_1.index t = ![0] ∧ win0_2.index t = ![0, 0]
    ∧ win0_3.index t = ![0, t.val] ∧ win0_4.index t = ![0, t.val] ∧ win0_5.index t = ![0, 0, t.val] ∧ win0_6.index t = ![0, t.val] :=
  (by decide +kernel : ∀ t : Fin grid0.N, _)

variable (m : (ℓ : Loc nD τ sig) → Buf (Elt F) ℓ)

theorem iblk0 (c : Dev nD) (t : Fin cfg0.N) : iblk m c 0 t = m ((c : Thread nD τ).loc main_arg5) := by
  funext i
  blk_ext [iblk, V, idx t]

/-- The precondition makes the sizes the kernel reads sum to the batch. -/
theorem sizesOK [Cert.Pre_sizes_partition_batch.Facts] (h : ∀ c : Dev nD, Cert.Pre_sizes_partition_batch.fn (F := F)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) = fun _ => 1#1) :
    SizesOK m := by
  intro c t
  unfold Sizes
  rw [iblk0, pre_eq _ _ (Nat.le_refl _)]
  exact Cert.Sizes.of_pre _ (h c)

end Cert.Kernel.Body
-- ==== Proof.Signs.lean ====
/-
  What the unpacked signs hold at an index: row k of a tenant's sign block is one where bit k % 8 of the packed byte in
  row k / 8 is set, and minus one elsewhere.
-/
module

public import proofs.«01_k».proof.Proof.Rows
public import Idealize.ShloMosaic.Lib.Pipeline.ValueKit
public import Idealize.ShloMosaic.Lib.Pipeline.CanonAppend
public import Idealize.ShloMosaic.Lib.BitcastFour
public import Idealize.ShloMosaic.Lib.BitcastPair

@[expose] public section

set_option maxRecDepth 16384

noncomputable section

namespace Cert.KernelIdeal.Body

open Cert.KernelIdeal Cert.KernelIdeal.Gen Idealize.ShloMosaic Idealize.ShloMosaic.TcCoe

variable {F : FTy → Type} [FloatOps F]

/-- The sixteen bits of plus or minus one. -/
def signBits (b : Bool) : BitVec 16 := if b then 0x3F80#16 else 0xBF80#16

/-- The sign a bit stands for. -/
def sgn (b : Bool) : F .bf16 := FloatOps.ofBits .bf16 (signBits b)

/-- The low half of the masked word is the sign its bit 15 stands for. -/
theorem low_half (v : BitVec 32) : ((v &&& 2147516416#32) ^^^ 3212885888#32).extractLsb' 0 16 = signBits (v.getLsbD 15) := by
  have : ∀ b : Bool, v.getLsbD 15 = b → ((v &&& 2147516416#32) ^^^ 3212885888#32).extractLsb' 0 16 = signBits b := by
    intro b hb
    apply BitVec.eq_of_getLsbD_eq
    intro i hi
    rw [BitVec.getLsbD_extractLsb', BitVec.getLsbD_xor, BitVec.getLsbD_and]
    rcases Nat.lt_or_ge i 15 with h | h
    · interval_cases i <;> cases b <;> simp [signBits]
    · obtain rfl : i = 15 := by omega
      rw [show 0 + 15 = 15 from rfl, hb]
      cases b <;> decide
  exact this _ rfl

/-- The high half of the masked word is the sign its bit 31 stands for. -/
theorem high_half (v : BitVec 32) : ((v &&& 2147516416#32) ^^^ 3212885888#32).extractLsb' 16 16 = signBits (v.getLsbD 31) := by
  have : ∀ b : Bool, v.getLsbD 31 = b → ((v &&& 2147516416#32) ^^^ 3212885888#32).extractLsb' 16 16 = signBits b := by
    intro b hb
    apply BitVec.eq_of_getLsbD_eq
    intro i hi
    rw [BitVec.getLsbD_extractLsb', BitVec.getLsbD_xor, BitVec.getLsbD_and]
    rcases Nat.lt_or_ge i 15 with h | h
    · interval_cases i <;> cases b <;> simp [signBits]
    · obtain rfl : i = 15 := by omega
      rw [show 16 + 15 = 31 from rfl, hb]
      cases b <;> decide
  exact this _ rfl

/-- A word with its low half repeated one bit higher in its high half. -/
def doubled (u : BitVec 32) : BitVec 32 := (u &&& 65535#32) ||| ((u <<< 15) &&& 4294901760#32)

theorem doubled_low (u : BitVec 32) (i : ℕ) (h : i < 16) : (doubled u).getLsbD i = u.getLsbD i := by
  unfold doubled
  rw [BitVec.getLsbD_or, BitVec.getLsbD_and, BitVec.getLsbD_and]
  interval_cases i <;> simp

theorem doubled_high (u : BitVec 32) (i : ℕ) (h : i < 16) : (doubled u).getLsbD (16 + i) = u.getLsbD (i + 1) := by
  unfold doubled
  rw [BitVec.getLsbD_or, BitVec.getLsbD_and, BitVec.getLsbD_and, BitVec.getLsbD_shiftLeft]
  interval_cases i <;> simp

/-- The word a half is cut from, before the bitcast: `s` the sublane. -/
def masked (w sh : BitVec 32) (s : ℕ) : BitVec 32 :=
  IntOp.xori (IntOp.andi (IntOp.shli .vector
    (IntOp.ori (IntOp.andi (IntOp.shrui .vector w sh) 65535#32) (IntOp.andi (IntOp.shli .vector (IntOp.shrui .vector w sh) 15#32) 4294901760#32))
    (IntOp.subi (15#32) (IntOp.muli (2#32) (BitVec.ofNat 32 s)))) 2147516416#32) 3212885888#32

theorem masked_half (w : BitVec 32) (z : Bool) (r : ℕ) (hr : r < 16) :
    (masked w (if z then 16#32 else 0#32) (r / 2)).extractLsb' (16 * (r % 2)) 16 = signBits (w.getLsbD ((if z then 16 else 0) + r)) := by
  have hsh : IntOp.shrui .vector w (if z then 16#32 else 0#32) = w >>> (if z then 16 else 0 : ℕ) := by
    cases z <;> simp [IntOp.shrui]
  have hd : ∀ s : ℕ, s < 8 → masked w (if z then 16#32 else 0#32) s
      = (((doubled (w >>> (if z then 16 else 0 : ℕ))) <<< (15 - 2 * s)) &&& 2147516416#32) ^^^ 3212885888#32 := by
    intro s hs
    unfold masked
    rw [hsh]
    interval_cases s <;> simp [IntOp.shli, IntOp.subi, IntOp.muli, IntOp.xori, IntOp.andi, IntOp.ori, doubled]
  rw [hd _ (by omega)]
  rcases Nat.mod_two_eq_zero_or_one r with h | h
  · rw [h, show 16 * 0 = 0 from rfl, low_half, BitVec.getLsbD_shiftLeft, show 15 - (15 - 2 * (r / 2)) = r by omega,
      doubled_low _ _ hr, BitVec.getLsbD_ushiftRight]
    simp [show ¬ 15 < 15 - 2 * (r / 2) by omega]
  · rw [h, show 16 * 1 = 16 from rfl, high_half, BitVec.getLsbD_shiftLeft, show 31 - (15 - 2 * (r / 2)) = 16 + (r - 1) by omega,
      doubled_high _ _ (by omega), BitVec.getLsbD_ushiftRight, show r - 1 + 1 = r by omega]
    simp [show ¬ 31 < 15 - 2 * (r / 2) by omega]

/-- Row `r` of a half is the sign of bit `r` of that half of the word. -/
theorem half_apply (w : IVec S8x1280 32) (z : Bool) (r : Fin 16) (n : Fin 1280) (b : ℕ) (hb : b = (if z then 16 else 0) + r.val)
    (v : BitVec 32) (hv : ∀ s : Fin 8, w (ValueIdx.ix2 s n) = v) :
    half (F := F) w (if z then 16#32 else 0#32) (ValueIdx.ix2 r n) = sgn (v.getLsbD b) := by
  subst hb
  unfold half
  simp only [bitcastToFloat]
  rw [bitcast_32_16, sgn, ← masked_half v z r.val r.isLt]
  generalize_proofs hp
  have e : bitcasts_S8x1280_w32_S16x1280_w16.srcIdx (ValueIdx.ix2 r n) (S16x1280.row (ValueIdx.ix2 r n) / 2) hp = ValueIdx.ix2 (⟨r.val / 2, by omega⟩ : Fin 8) n := by
    funext c
    match c with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))
  rw [e]
  pointwise
  rw [hv]
  rfl

/-- Bit `i` of row `q` of the words is bit `i % 8` of the byte in row `4 q + i / 8`. -/
theorem word_apply (v : Vec F S1x32x1280 .i8) (q : ℕ) (hq : q < 8) (h : Shape.Slices S8x1280 ![q, 0] S1x1280) (s : Fin 8) (n : Fin 1280) (i : ℕ) (hi : i < 32) :
    (word v ![q, 0] h (ValueIdx.ix2 s n)).getLsbD i = ((v (ValueIdx.ix3 0 (⟨4 * q + i / 8, by omega⟩ : Fin 32) n) : BitVec 8)).getLsbD (i % 8) := by
  unfold word
  pointwise
  refine (bitcast_8_32_getLsbD_ix2 _ bitcasts_S32x1280_w8_S8x1280_w32 ⟨q, hq⟩ n i hi ⟨4 * q + i / 8, by omega⟩ rfl).trans ?_
  pointwise
  rfl

/-- Row `p` of a block of signs is the sign of bit `p` of the word row. -/
theorem sblk_apply (v : Vec F S1x32x1280 .i8) (q : ℕ) (hq : q < 8) (h : Shape.Slices S8x1280 ![q, 0] S1x1280) (p : Fin 32) (n : Fin 1280) :
    sblk v ![q, 0] h (ValueIdx.ix2 p n) = sgn (((v (ValueIdx.ix3 0 (⟨4 * q + p.val / 8, by omega⟩ : Fin 32) n) : BitVec 8)).getLsbD (p.val % 8)) := by
  unfold sblk
  rw [← word_apply v q hq h 0 n p p.isLt]
  have hv : ∀ s : Fin 8, word v ![q, 0] h (ValueIdx.ix2 s n) = word v ![q, 0] h (ValueIdx.ix2 0 n) := by
    intro s
    unfold word
    pointwise
  pointwise
  split
  · exact half_apply _ false _ _ _ (Nat.zero_add _).symm _ hv
  · rename_i hp
    refine half_apply _ true _ _ _ ?_ _ hv
    show p.val = 16 + (p.val - 16)
    have : ¬ p.val < 16 := hp
    omega

/-- The sign of row `y 0` and column `y 1` of tenant `t`'s packed bytes. -/
def signOf (t : Fin k0_t1_loop.trips) (x6 : Vec F S14x192x1280 .i8) (y : S1536x1280.Idx) : F .bf16 :=
  sgn ((x6 (ValueIdx.ix3 (⟨t.val, lt_of_lt_of_eq t.isLt t1_trips⟩ : Fin 14) (⟨(y 0).val / 8, Nat.div_lt_of_lt_mul (y 0).isLt⟩ : Fin 192) (y 1) : S14x192x1280.Idx) : BitVec 8).getLsbD ((y 0).val % 8))

theorem piece_eq {t : Fin k0_t1_loop.trips} {x6 : Vec F S14x192x1280 .i8} {B q g : ℕ} {off : Fin 3 → ℕ} (hoff : off = ![t.val, B, 0])
    (hg : g = 8 * B + 32 * q) (hq : q < 8) {inb : ∀ a, off a + S1x32x1280.size a ≤ S14x192x1280.size a} {inb' : ∀ a, (![g, 0] : Fin 2 → ℕ) a + S32x1280.size a ≤ S1536x1280.size a}
    {h : Shape.Slices S8x1280 ![q, 0] S1x1280} (x : S32x1280.Idx) :
    sblk (View.ld x6 (Rect.unit (s := S14x192x1280) off S1x32x1280.size inb)) ![q, 0] h x
      = signOf t x6 ((Rect.unit (s := S1536x1280) ![g, 0] S32x1280.size inb').emb x) := by
  subst hoff hg
  obtain ⟨p, n, rfl⟩ : ∃ (p : Fin 32) (n : Fin 1280), x = ValueIdx.ix2 p n := ⟨x 0, x 1, by funext c; match c with | ⟨0, _⟩ => rfl | ⟨1, _⟩ => rfl⟩
  rw [sblk_apply _ q hq]
  unfold signOf
  have h0 : ((Rect.unit (s := S1536x1280) ![8 * B + 32 * q, 0] S32x1280.size inb').emb (ValueIdx.ix2 p n) 0).val = 8 * B + 32 * q + p.val := by
    show 8 * B + 32 * q + 1 * p.val = _; omega
  have h1 : ((Rect.unit (s := S1536x1280) ![8 * B + 32 * q, 0] S32x1280.size inb').emb (ValueIdx.ix2 p n) 1).val = n.val := by
    show 0 + 1 * n.val = _; omega
  congr 1
  refine congrArg₂ BitVec.getLsbD (congrArg x6 (funext fun c => Fin.ext ?_)) (by rw [h0]; omega)
  match c with
  | ⟨0, _⟩ => show t.val + 1 * 0 = t.val; omega
  | ⟨1, _⟩ => show B + 1 * (4 * q + p.val / 8) = _ / 8; rw [h0]; omega
  | ⟨2, _⟩ => show 0 + 1 * n.val = _; rw [h1]; omega

set_option maxHeartbeats 1000000 in
theorem pieces_eq (t : Fin k0_t1_loop.trips) (x6 : Vec F S14x192x1280 .i8) :
    ∀ p ∈ pieces t x6, ∀ x : p.1.shape.Idx, p.2 x = signOf t x6 (p.1.emb x) := by
  simp only [pieces, List.forall_mem_cons, List.not_mem_nil, false_implies, implies_true, and_true]
  iterate 8 refine ⟨piece_eq (k0_off7_eq t) rfl (by decide), ?_⟩
  iterate 8 refine ⟨piece_eq (k0_off6_eq t) rfl (by decide), ?_⟩
  iterate 8 refine ⟨piece_eq (k0_off5_eq t) rfl (by decide), ?_⟩
  iterate 8 refine ⟨piece_eq (k0_off4_eq t) rfl (by decide), ?_⟩
  iterate 8 refine ⟨piece_eq (k0_off3_eq t) rfl (by decide), ?_⟩
  iterate 7 refine ⟨piece_eq (k0_off2_eq t) rfl (by decide), ?_⟩
  exact piece_eq (k0_off2_eq t) rfl (by decide)

/-- Every entry of a tenant's sign block. -/
theorem signs_eq (t : Fin k0_t1_loop.trips) (x6 : Vec F S14x192x1280 .i8) : signs t x6 = signOf t x6 := by
  funext y
  have := View.canon_append_of_pieces (signOf t x6) [] (pieces t x6) (pieces_eq t x6) y (cover t x6 y)
  rwa [List.append_nil] at this

end Cert.KernelIdeal.Body
-- ==== Proof.Value.lean ====
/-
  What the kernel body leaves over the extended reals: every row of the result is its tenant's.
-/
module

public import proofs.«01_k».proof.Proof.Blocks
public import proofs.«01_k».proof.Proof.Signs

@[expose] public section

set_option maxRecDepth 16384

noncomputable section

namespace Cert.KernelIdeal.Body

open Cert.KernelIdeal Cert.KernelIdeal.Gen Idealize.ShloMosaic Idealize.ShloMosaic.TcCoe

/-- One element of the result, for a row of tenant `t`. -/
def elem (x2 : Vec Ideal S14 .f32) (x3 : Vec Ideal S4608x1536 .bf16) (x4 : Vec Ideal S1536x1280 .fp8e4m3) (x5 : Vec Ideal S1x1280 .f32)
    (x6 : Vec Ideal S14x192x1280 .i8) (t : Fin k0_t1_loop.trips) (r : Fin 4608) (n : Fin 1280) : EReal :=
  (∑ k : Fin 1536, x3 (ValueIdx.ix2 r k) * x4 (ValueIdx.ix2 k n)) * x5 (ValueIdx.ix2 0 n)
    + scale x2 t * ∑ k : Fin 1536, x3 (ValueIdx.ix2 r k) * signOf t x6 (ValueIdx.ix2 k n)

theorem fresh_apply (xs : Vec Ideal S256x1536 .bf16) (x4 : Vec Ideal S1536x1280 .fp8e4m3) (x8 : Vec Ideal S1536x1280 .bf16) (x5 : Vec Ideal S1x1280 .f32)
    (sc : Elt Ideal .f32) (p : Fin 256) (n : Fin 1280) :
    fresh xs x4 x8 x5 sc (ValueIdx.ix2 p n)
      = (∑ k : Fin 1536, (xs (ValueIdx.ix2 p k) : EReal) * x4 (ValueIdx.ix2 k n)) * x5 (ValueIdx.ix2 0 n)
        + sc * ∑ k : Fin 1536, (xs (ValueIdx.ix2 p k) : EReal) * x8 (ValueIdx.ix2 k n) := by
  unfold fresh freshF
  pointwise
  rfl

theorem keep_eq (p : Ideal .bf16) : FloatOps.truncf .bf16 bitsLt_bf16_f32 (FloatOps.extf .f32 bitsLt_bf16_f32 p) = p := by
  rfl

/-- No row is two tenants'. -/
theorem tenant_unique (x1 : Vec Ideal S14 .i32) (t u : Fin k0_t1_loop.trips) (r : ℕ) (h1 : 2 * pre x1 t.val ≤ r) (h2 : r < 2 * pre x1 (t.val + 1))
    (h3 : 2 * pre x1 u.val ≤ r) (h4 : r < 2 * pre x1 (u.val + 1)) : t = u := by
  rcases Nat.lt_trichotomy t.val u.val with h | h | h
  · have := pre_mono x1 (show t.val + 1 ≤ u.val from h)
    omega
  · exact Fin.ext h
  · have := pre_mono x1 (show u.val + 1 ≤ t.val from h)
    omega

theorem tenants_apply (x1 : Vec Ideal S14 .i32) (x2 : Vec Ideal S14 .f32) (x3 : Vec Ideal S4608x1536 .bf16) (x4 : Vec Ideal S1536x1280 .fp8e4m3) (x5 : Vec Ideal S1x1280 .f32)
    (x6 : Vec Ideal S14x192x1280 .i8) (hf : Fits x1) (hsz : Sizes x1) (A : Vec Ideal S4608x1280 .bf16)
    (t : Fin k0_t1_loop.trips) (r : Fin 4608) (n : Fin 1280) (h1 : 2 * pre x1 t.val ≤ r.val) (h2 : r.val < 2 * pre x1 (t.val + 1)) :
    tenants x1 x2 x3 x4 x5 x6 hf A 14 (ValueIdx.ix2 r n) = elem x2 x3 x4 x5 x6 t r n := by
  refine tenants_rel (fun y p _ => ∀ u : Fin k0_t1_loop.trips, 2 * pre x1 u.val ≤ (y 0).val → (y 0).val < 2 * pre x1 (u.val + 1) → p = elem x2 x3 x4 x5 x6 u (y 0) (y 1))
    x1 x2 x3 x4 x5 x6 hf hsz ?_ ?_ A A 14 le_rfl (ValueIdx.ix2 r n) ?_ t h1 h2
  · intro t hc k y j hy0 hy1 hlo hhi u hu1 hu2
    have hst := start_toNat x1 hsz t.val (by have := lt_of_lt_of_eq t.isLt t1_trips; omega)
    have hp := pre_succ x1 t
    obtain rfl := tenant_unique x1 t u (y 0).val (by omega) (by omega) hu1 hu2
    obtain ⟨p, q, rfl⟩ : ∃ (p : Fin 256) (q : Fin 1280), j = ValueIdx.ix2 p q := ⟨j 0, j 1, by funext c; match c with | ⟨0, _⟩ => rfl | ⟨1, _⟩ => rfl⟩
    rw [fresh_apply, signs_eq]
    have hx : ∀ kk : Fin 1536, View.ld x3 (Rect.unit (s := S4608x1536) (k0_off9 (start x1 t.val) (size x1 t) k) S256x1536.size (k0_off9_inb _ _ (hf t) k hc)) (ValueIdx.ix2 p kk)
        = x3 (ValueIdx.ix2 (y 0) kk) := by
      intro kk
      refine congrArg x3 (funext fun c => Fin.ext ?_)
      match c with
      | ⟨0, _⟩ =>
        show k0_off9 (start x1 t.val) (size x1 t) k 0 + 1 * p.val = (y 0).val
        rw [off9_eq _ _ (tenant_rows x1 hsz t), hy0]
        show row (start x1 t.val) k.val + 1 * p.val = row (start x1 t.val) k.val + p.val
        omega
      | ⟨1, _⟩ =>
        show k0_off9 (start x1 t.val) (size x1 t) k 1 + 1 * kk.val = kk.val
        rw [off9_eq _ _ (tenant_rows x1 hsz t)]
        show 0 + 1 * kk.val = kk.val
        omega
    have hq : q = y 1 := Fin.ext hy1.symm
    subst hq
    simp only [hx]
    rfl
  · intro y p q h
    exact h
  · rw [hsz]
    exact r.isLt

end Cert.KernelIdeal.Body
-- ==== Proof.Val.lean ====
/-
  The value both programs compute over the extended reals: each row times the base weights and their scales, plus the row's
  tenant's scale times the row against that tenant's signs.
-/
module

public import proofs.«01_k».proof.Proof.Pre
public import Mathlib.Data.EReal.Operations
public import Mathlib.Algebra.BigOperators.Fin

@[expose] public section

noncomputable section

namespace Cert.Sizes

open Idealize.ShloMosaic
open Cert.Pre_sizes_partition_batch (S14 S_)

/-- The number of tenants that end at or before request `b`. -/
def ended (x : IVec S14 32) (b n : ℕ) : ℕ := Nat.count (fun i => upto x (i + 1) ≤ b) n

theorem ended_spec (x : IVec S14 32) (b n : ℕ) :
    upto x (ended x b n) ≤ b ∧ (ended x b n < n → b < upto x (ended x b n + 1)) ∧ ended x b n ≤ n := by
  induction n with
  | zero => exact ⟨by simp [ended, upto_zero], fun h => absurd h (Nat.not_lt_zero _), by simp [ended]⟩
  | succ n ih =>
    obtain ⟨h1, h2, h3⟩ := ih
    have hs : ended x b (n + 1) = ended x b n + if upto x (n + 1) ≤ b then 1 else 0 := by
      unfold ended; rw [Nat.count_succ]
    rw [hs]
    split
    · rename_i hp
      have e : ended x b n = n := by
        by_contra hne
        have := h2 (by omega)
        have := upto_mono x (show ended x b n + 1 ≤ n + 1 by omega)
        omega
      rw [e]
      exact ⟨hp, fun h => absurd h (by omega), by omega⟩
    · rename_i hp
      refine ⟨h1, fun _ => ?_, by omega⟩
      rcases Nat.lt_or_ge (ended x b n) n with h | h
      · exact h2 h
      · have e : ended x b n = n := by omega
        show b < upto x (ended x b n + 0 + 1)
        rw [e]
        exact Nat.lt_of_not_le hp

/-- Where the sizes sum to the batch, every request has a tenant. -/
theorem ended_lt (x : IVec S14 32) (h : upto x 14 = 2304) (b : Fin 2304) : ended x b.val 14 < 14 := by
  have h1 := ended_spec x b.val 14
  rcases Nat.lt_or_ge (ended x b.val 14) 14 with h2 | h2
  · exact h2
  · have e : ended x b.val 14 = 14 := by omega
    rw [e, h] at h1
    have := b.isLt
    omega

/-- Request `b`'s tenant. -/
def owner (x : IVec S14 32) (h : upto x 14 = 2304) (b : Fin 2304) : Fin 14 := ⟨ended x b.val 14, ended_lt x h b⟩

theorem owner_le (x : IVec S14 32) (h : upto x 14 = 2304) (b : Fin 2304) : upto x (owner x h b).val ≤ b.val := (ended_spec x b.val 14).1

theorem owner_lt (x : IVec S14 32) (h : upto x 14 = 2304) (b : Fin 2304) : b.val < upto x ((owner x h b).val + 1) :=
  (ended_spec x b.val 14).2.1 (ended_lt x h b)

/-- The sign a bit stands for. -/
def pm (b : Bool) : EReal := if b then 1 else -1

/-- One element of the result. -/
def val (x : (⟨3, ![2304, 2, 1536]⟩ : Shape).Idx → EReal) (w : (⟨2, ![1536, 8960]⟩ : Shape).Idx → EReal) (bs : (⟨1, ![8960]⟩ : Shape).Idx → EReal)
    (bits : (⟨3, ![14, 192, 8960]⟩ : Shape).Idx → BitVec 8) (ds : (⟨1, ![14]⟩ : Shape).Idx → EReal) (t : Fin 14) (b : Fin 2304) (s : Fin 2) (n : Fin 8960) : EReal :=
  (∑ k : Fin 1536, x (ValueIdx.ix3 b s k) * w (ValueIdx.ix2 k n)) * bs (ValueIdx.ix1 n)
    + ds (ValueIdx.ix1 t) * ∑ k : Fin 1536, x (ValueIdx.ix3 b s k)
        * pm ((bits (ValueIdx.ix3 t (⟨k.val / 8, by omega⟩ : Fin 192) n)).getLsbD (k.val % 8))

/-- Equal arguments, equal values. -/
theorem val_congr {x x' : (⟨3, ![2304, 2, 1536]⟩ : Shape).Idx → EReal} {w w' : (⟨2, ![1536, 8960]⟩ : Shape).Idx → EReal} {bs bs' : (⟨1, ![8960]⟩ : Shape).Idx → EReal}
    {bits bits' : (⟨3, ![14, 192, 8960]⟩ : Shape).Idx → BitVec 8} {ds ds' : (⟨1, ![14]⟩ : Shape).Idx → EReal} {sz sz' : IVec S14 32}
    (h : upto sz 14 = 2304) (h' : upto sz' 14 = 2304) (e0 : x = x') (e1 : w = w') (e2 : bs = bs') (e3 : bits = bits') (e4 : ds = ds') (e5 : sz = sz')
    (b : Fin 2304) (s : Fin 2) (n : Fin 8960) : val x w bs bits ds (owner sz h b) b s n = val x' w' bs' bits' ds' (owner sz' h' b) b s n := by
  subst e0 e1 e2 e3 e4 e5; rfl

end Cert.Sizes
-- ==== Proof.Final.lean ====
/-
  The kernel's result array over the extended reals.
-/
module

public import proofs.«01_k».proof.Proof.Value
public import proofs.«01_k».proof.Proof.Val
public import Idealize.ShloMosaic.Lib.IdealHost
public import Idealize.ShloMosaic.Lib.StableHlo.ReadAt

@[expose] public section

set_option maxRecDepth 16384

noncomputable section

namespace Cert.KernelIdeal.Body

open Cert.KernelIdeal Cert.KernelIdeal.Gen Idealize.ShloMosaic Idealize.ShloMosaic.TcCoe

theorem sgn_eq (b : Bool) : sgn (F := Ideal) b = Cert.Sizes.pm b := by
  cases b
  · exact Ideal.ofBits_neg_one_bf16
  · exact Ideal.ofBits_one_bf16

variable (m : (ℓ : Loc nD τ sig) → Buf (Elt Ideal) ℓ) (hP : SizesOK m)

/-- The result array. -/
def result (c : Dev nD) (hU : Cert.Sizes.upto (m ((c : Thread nD τ).loc main_arg5)) 14 = 2304) : Vec Ideal S4608x8960 .bf16 := fun i =>
  Cert.Sizes.val (m ((c : Thread nD τ).loc main_arg0)) (m ((c : Thread nD τ).loc main_arg1)) (m ((c : Thread nD τ).loc main_arg2))
    (m ((c : Thread nD τ).loc main_arg3)) (m ((c : Thread nD τ).loc main_arg4))
    (Cert.Sizes.owner (m ((c : Thread nD τ).loc main_arg5)) hU ⟨(i 0).val / 2, Nat.div_lt_of_lt_mul (i 0).isLt⟩)
    ⟨(i 0).val / 2, Nat.div_lt_of_lt_mul (i 0).isLt⟩ ⟨(i 0).val % 2, Nat.mod_lt _ Nat.two_pos⟩ (i 1)

theorem scale_eq (x2 : Vec Ideal S14 .f32) (t : Fin k0_t1_loop.trips) : scale x2 t = x2 (ValueIdx.ix1 (⟨t.val, lt_of_lt_of_eq t.isLt t1_trips⟩ : Fin 14)) := by
  unfold scale
  refine congrArg x2 (funext fun c => Fin.ext ?_)
  match c with
  | ⟨0, _⟩ =>
    show k0_off8 t 0 + 1 * 0 = t.val
    rw [k0_off8_eq]; rfl

/-! ## The blocks as the arguments -/

theorem iblk1 (c : Dev nD) (t : Fin cfg0.N) : iblk m c 1 t = m ((c : Thread nD τ).loc main_arg4) := by
  funext i
  blk_ext [iblk, V, idx t]

theorem iblk3_apply (c : Dev nD) (t : Fin cfg0.N) (k : Fin 1536) (n : Fin 1280) (N : Fin 8960) (hN : N.val = t.val * 1280 + n.val) :
    iblk m c 3 t (ValueIdx.ix2 k n) = m ((c : Thread nD τ).loc main_arg1) (ValueIdx.ix2 k N) := by
  blk_ext [iblk, V, idx t]
  exact hN.symm

theorem iblk5_apply (c : Dev nD) (t : Fin cfg0.N) (u : Fin 14) (k : Fin 192) (n : Fin 1280) (N : Fin 8960) (hN : N.val = t.val * 1280 + n.val) :
    iblk m c 5 t (ValueIdx.ix3 u k n) = m ((c : Thread nD τ).loc main_arg3) (ValueIdx.ix3 u k N) := by
  blk_ext [iblk, V, idx t]
  exact hN.symm

theorem iblk4_apply (c : Dev nD) (t : Fin cfg0.N) (n : Fin 1280) (N : Fin 8960) (hN : N.val = t.val * 1280 + n.val) :
    iblk m c 4 t (ValueIdx.ix2 0 n) = m ((c : Thread nD τ).loc main_arg2) (ValueIdx.ix1 N) := by
  have e : iblk m c 4 t (ValueIdx.ix2 0 n) = V m c main_v1 (ValueIdx.ix2 0 N) := by
    blk_ext [iblk, idx t]
    exact hN.symm
  rw [e]
  show StableHlo.after [hostOps0].flatten (fun b => m (c, b)) (Proc.devRef .tc main_v1) _ = _
  simp only [List.flatten_cons, List.flatten_nil, List.append_nil]
  after_reads_at
  rfl

theorem iblk2_apply (c : Dev nD) (t : Fin cfg0.N) (r : Fin 4608) (k : Fin 1536) :
    iblk m c 2 t (ValueIdx.ix2 r k) = m ((c : Thread nD τ).loc main_arg0) (ValueIdx.ix3 (⟨r.val / 2, Nat.div_lt_of_lt_mul r.isLt⟩ : Fin 2304) (⟨r.val % 2, Nat.mod_lt _ Nat.two_pos⟩ : Fin 2) k) := by
  have e : iblk m c 2 t (ValueIdx.ix2 r k) = V m c main_v0 (ValueIdx.ix2 r k) := by
    blk_ext [iblk, idx t]
  rw [e]
  show StableHlo.after [hostOps0].flatten (fun b => m (c, b)) (Proc.devRef .tc main_v0) _ = _
  simp only [List.flatten_cons, List.flatten_nil, List.append_nil]
  after_reads_at
  rfl

theorem out_apply (c : Dev nD) (hU : Cert.Sizes.upto (m ((c : Thread nD τ).loc main_arg5)) 14 = 2304) (t : Fin cfg0.N) (r : Fin 4608) (n : Fin 1280) (N : Fin 8960) (hN : N.val = t.val * 1280 + n.val) :
    out m hP c t (ValueIdx.ix2 r n) = result m c hU (ValueIdx.ix2 r N) := by
  have hb : r.val / 2 < 2304 := by omega
  have h1 := Cert.Sizes.owner_le _ hU ⟨r.val / 2, hb⟩
  have h2 := Cert.Sizes.owner_lt _ hU ⟨r.val / 2, hb⟩
  generalize ho : Cert.Sizes.owner _ hU ⟨r.val / 2, hb⟩ = u at h1 h2
  have hu : u.val < k0_t1_loop.trips := lt_of_lt_of_eq u.isLt t1_trips.symm
  have e1 := pre_eq (iblk m c 0 t) u.val (by omega)
  have e2 := pre_eq (iblk m c 0 t) (u.val + 1) (by omega)
  rw [iblk0 m c t] at e1 e2
  unfold out
  rw [tenants_apply (t := ⟨u.val, hu⟩) (hsz := hP c t) (h1 := by show 2 * pre _ u.val ≤ r.val; rw [iblk0 m c t, e1]; dsimp only at h1; omega) (h2 := by show r.val < 2 * pre _ (u.val + 1); rw [iblk0 m c t, e2]; dsimp only at h2; omega)]
  unfold result
  show _ = Cert.Sizes.val _ _ _ _ _ (Cert.Sizes.owner _ hU ⟨r.val / 2, hb⟩) ⟨r.val / 2, hb⟩ ⟨r.val % 2, _⟩ N
  rw [ho]
  unfold elem Cert.Sizes.val signOf
  rw [scale_eq, iblk1, iblk4_apply m c t n N hN]
  simp only [sgn_eq, iblk2_apply, iblk3_apply m c t _ n N hN]
  refine congrArg₂ (· + ·) rfl (congrArg₂ (· * ·) rfl (Finset.sum_congr rfl fun k _ => ?_))
  exact congrArg (fun v : BitVec 8 => _ * Cert.Sizes.pm (v.getLsbD (k.val % 8))) (iblk5_apply m c t u ⟨k.val / 8, by omega⟩ n N hN)

/-- The result array the region leaves. -/
theorem final (c : Dev nD) (hU : Cert.Sizes.upto (m ((c : Thread nD τ).loc main_arg5)) 14 = 2304) :
    (dats m hP 0 c).arrAt 6 (cfgs 0).N = result m c hU := by
  refine (dats m hP 0 c).arrAt_eq_of_covers 6 _ (by decide +kernel) fun t hf y => ?_
  blk_simp
  rw [after0_6]
  have ht : t.val < 7 := t.isLt
  have hn : (y 1).val < 1280 := (y 1).isLt
  have hN : t.val * 1280 + (y 1).val < 8960 := by omega
  have e : (win0_6.blk t).view.emb y = ValueIdx.ix2 (⟨(y 0).val, (y 0).isLt⟩ : Fin 4608) (⟨t.val * 1280 + (y 1).val, hN⟩ : Fin 8960) := by
    blk_ext [idx t]
  have e' : y = ValueIdx.ix2 (⟨(y 0).val, (y 0).isLt⟩ : Fin 4608) (⟨(y 1).val, hn⟩ : Fin 1280) := by
    funext a
    match a with
    | ⟨0, _⟩ => rfl
    | ⟨1, _⟩ => rfl
  rw [e]
  exact (congrArg (out m hP c t) e').trans (out_apply m hP c hU t ⟨(y 0).val, (y 0).isLt⟩ ⟨(y 1).val, hn⟩ ⟨t.val * 1280 + (y 1).val, hN⟩ rfl)

end Cert.KernelIdeal.Body
-- ==== Proof.Main.lean ====
/-
  The kernel's run over the extended reals, with its result named.
-/
module

public import proofs.«01_k».proof.Proof.Final
public import Idealize.ShloMosaic.Lib.Claim

@[expose] public section

set_option maxRecDepth 16384

noncomputable section

namespace Cert.KernelIdeal.Body

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (hP : SizesOK m)

/-- The result at its own shape. -/
def value (c : Dev nD) (hU : Cert.Sizes.upto (m ((c : Thread nD τ).loc main_arg5)) 14 = 2304) : Vec Ideal S2304x2x8960 .bf16 := fun i =>
  Cert.Sizes.val (m ((c : Thread nD τ).loc main_arg0)) (m ((c : Thread nD τ).loc main_arg1)) (m ((c : Thread nD τ).loc main_arg2))
    (m ((c : Thread nD τ).loc main_arg3)) (m ((c : Thread nD τ).loc main_arg4))
    (Cert.Sizes.owner (m ((c : Thread nD τ).loc main_arg5)) hU (i 0)) (i 0) (i 1) (i 2)

include hP in
/-- THE RUN with its value: the result is `value`, the arguments are unchanged. -/
theorem run_value (hU : ∀ c : Dev nD, Cert.Sizes.upto (m ((c : Thread nD τ).loc main_arg5)) 14 = 2304) :
    θ_run defs (onTc (τ := τ) (main (F := Ideal))) ⟨m, fun _ => 0, ρ⟩ (fun r => ∀ c : Dev nD,
      r.2.mem ((c.tc : Thread nD τ).loc main_v3) = value m c (hU c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have h : θ_run defs (onTc (τ := τ) (main (F := Ideal))) ⟨m, fun _ => 0, ρ⟩ (Pipeline.FramePost cfgs (dats m hP) 0 (Pipeline.afterTail₀ cfgs (dats m hP) 0 (V0 m) [hostOps1])) :=
    (θ_run defs _ _).mono (fun _ h => h.1) (run_main_quiescent m ρ hP)
  have hf := (θ_run defs _ _).mono (fun _ h => h.1) (frame m ρ hP)
  refine (θ_run defs _ _).mono (fun r hr c => ⟨?_, hr.2 c⟩) (θ_run_and h hf)
  rw [(hr.1 c).2 main_v3 (by decide)]
  have e : ∀ b, Pipeline.afterTail₀ cfgs (dats m hP) 0 (V0 m) [hostOps1] c b =
     StableHlo.after hostOps1 (Pipeline.withArrays (cfgs 0).spec c (V0 m c) fun w => (dats m hP 0 c).arrAt w (cfgs 0).N) (Proc.devRef .tc b) := fun _ => rfl
  rw [e]
  funext i
  after_reads_at
  have e2 : Pipeline.withArrays (cfgs 0).spec c (V0 m c) (fun w => (dats m hP 0 c).arrAt w (cfgs 0).N) (Proc.devRef .tc main_v2) = result m c (hU c) :=
    (Pipeline.withArrays_arr (cfgs 0).spec (by decide) c (V0 m c) (fun w => (dats m hP 0 c).arrAt w (cfgs 0).N) 6).trans (final m hP c (hU c))
  rw [e2]
  have h0 : (i 0).val < 2304 := (i 0).isLt
  have h1 : (i 1).val < 2 := (i 1).isLt
  have key : ∀ (b b' : Fin 2304) (s s' : Fin 2) (n : Fin 8960), b = b' → s = s' →
      Cert.Sizes.val (m ((c : Thread nD τ).loc main_arg0)) (m ((c : Thread nD τ).loc main_arg1)) (m ((c : Thread nD τ).loc main_arg2))
        (m ((c : Thread nD τ).loc main_arg3)) (m ((c : Thread nD τ).loc main_arg4)) (Cert.Sizes.owner (m ((c : Thread nD τ).loc main_arg5)) (hU c) b) b s n
      = Cert.Sizes.val (m ((c : Thread nD τ).loc main_arg0)) (m ((c : Thread nD τ).loc main_arg1)) (m ((c : Thread nD τ).loc main_arg2))
        (m ((c : Thread nD τ).loc main_arg3)) (m ((c : Thread nD τ).loc main_arg4)) (Cert.Sizes.owner (m ((c : Thread nD τ).loc main_arg5)) (hU c) b') b' s' n := by
    rintro b _ s _ n rfl rfl; rfl
  exact key _ _ _ _ _ (Fin.ext (show ((i 0).val * 2 + (i 1).val) / 2 = (i 0).val by omega)) (Fin.ext (show ((i 0).val * 2 + (i 1).val) % 2 = (i 1).val by omega))

end Cert.KernelIdeal.Body
-- ==== Proof.RefTerm.lean ====
/-
  The reference's result as one term over its arguments: the lines of @main composed.
-/
module

public import proofs.«01_k».proof.Proof.Gen.ReferenceIdeal
public import proofs.«01_k».proof.Proof.Gen.ReferenceIdeal.Frame
public import Idealize.ShloMosaic.Lib.StableHlo.RunRead
public import Idealize.ShloMosaic.Lib.StableHlo.ReadAt

@[expose] public section

set_option maxRecDepth 16384

noncomputable section

namespace Cert.ReferenceIdeal.Term

open Cert.ReferenceIdeal Cert.ReferenceIdeal.Gen Idealize.ShloMosaic Idealize.ShloMosaic.TcCoe

variable {F : FTy → Type} [FloatOps F]

/-- The running sum of the sizes. -/
def sums (sizes : IVec S14 32) : IVec S14 32 :=
  Host.reduceWindow IntOp.addi ![14] ![1] ![13] ![0] sizes (broadcastInDim S_ ![] bcast_S_S_ (constantI S_ 32 0#32)) reduceWindows_S14_S14_w14s1p13_0 h_S_

/-- For each request and tenant, whether the tenants up to that one end at or before the request. -/
def passed (sizes : IVec S14 32) : IVec S14x2304 1 :=
  cmpi .sle (broadcastInDim S14x2304 ![0, 1] bcast_S14x1_S14x2304_0_1 (broadcastInDim S14x1 ![0] bcast_S14_S14x1_0 (sums sizes)))
    (broadcastInDim S14x2304 ![0, 1] bcast_S1x2304_S14x2304_0_1 (broadcastInDim S1x2304 ![1] bcast_S2304_S1x2304_1 (iotaInDim S2304 32 0)))

/-- Each request's tenant. -/
def tenant (sizes : IVec S14 32) : IVec S2304 32 :=
  Host.reduce IntOp.addi (extui 32 (passed sizes) natLt_1_32) (constantI S_ 32 0#32) reducesTo_S14x2304_S2304_d0 h_S_

/-- One where the request is the tenant's, else zero. -/
def onehot (tn : IVec S2304 32) : FVec F S2304x14 .bf16 :=
  uitofp .bf16 (cmpi .eq (broadcastInDim S2304x14 ![0, 1] bcast_S2304x1_S2304x14_0_1 (broadcastInDim S2304x1 ![0] bcast_S2304_S2304x1_0 tn))
    (broadcastInDim S2304x14 ![0, 1] bcast_S1x14_S2304x14_0_1 (broadcastInDim S1x14 ![1] bcast_S14_S1x14_1 (iotaInDim S14 32 0))))

/-- The signs at bit position `j` of every byte. -/
def signAt (j : BitVec 32) (bits : IVec S14x192x8960 8) : FVec F S14x192x8960 .bf16 :=
  sitofp .bf16 (subi (muli (broadcastInDim S14x192x8960 ![] bcast_S_S14x192x8960 (constantI S_ 32 2#32))
      (andi (Host.shrsi (extui 32 bits natLt_8_32) (broadcastInDim S14x192x8960 ![] bcast_S_S14x192x8960 (constantI S_ 32 j)))
        (broadcastInDim S14x192x8960 ![] bcast_S_S14x192x8960 (constantI S_ 32 1#32))))
    (broadcastInDim S14x192x8960 ![] bcast_S_S14x192x8960 (constantI S_ 32 1#32)))

/-- The columns of `x` at one bit position, kept at the request's tenant. -/
def spread (tn : IVec S2304 32) (xj : FVec F S2304x2x192 .bf16) : FVec F S2304x2x14x192 .bf16 :=
  mulf (broadcastInDim S2304x2x14x192 ![0, 1, 2, 3] bcast_S2304x2x1x192_S2304x2x14x192_0_1_2_3 (broadcastInDim S2304x2x1x192 ![0, 1, 3] bcast_S2304x2x192_S2304x2x1x192_0_1_3 xj))
    (broadcastInDim S2304x2x14x192 ![0, 1, 2, 3] bcast_S2304x1x14x1_S2304x2x14x192_0_1_2_3 (broadcastInDim S2304x1x14x1 ![0, 2] bcast_S2304x14_S2304x1x14x1_0_2 (onehot tn)))

/-- The product of one bit position. -/
def part (j : BitVec 32) (o : Fin 3 → ℕ) (h : S2304x2x1536.SlicesBy o ![1, 1, 8] S2304x2x192) (tn : IVec S2304 32) (x : FVec F S2304x2x1536 .bf16) (bits : IVec S14x192x8960 8) : FVec F S2304x2x8960 .f32 :=
  Host.dotGeneral dot_S2304x2x14x192_S14x192x8960_S2304x2x8960_32_10_01_2_n_n none
    (spread tn (Host.slice S2304x2x192 o ![1, 1, 8] x h)) (signAt j bits)

/-- The sum over the bit positions. -/
def delta (tn : IVec S2304 32) (x : FVec F S2304x2x1536 .bf16) (bits : IVec S14x192x8960 8) : FVec F S2304x2x8960 .f32 :=
  addf (addf (addf (addf (addf (addf (addf (part 0#32 ![0, 0, 0] slicesBy_S2304x2x1536_S2304x2x192_0s1_0s1_0s8 tn x bits)
    (part 1#32 ![0, 0, 1] slicesBy_S2304x2x1536_S2304x2x192_0s1_0s1_1s8 tn x bits))
    (part 2#32 ![0, 0, 2] slicesBy_S2304x2x1536_S2304x2x192_0s1_0s1_2s8 tn x bits))
    (part 3#32 ![0, 0, 3] slicesBy_S2304x2x1536_S2304x2x192_0s1_0s1_3s8 tn x bits))
    (part 4#32 ![0, 0, 4] slicesBy_S2304x2x1536_S2304x2x192_0s1_0s1_4s8 tn x bits))
    (part 5#32 ![0, 0, 5] slicesBy_S2304x2x1536_S2304x2x192_0s1_0s1_5s8 tn x bits))
    (part 6#32 ![0, 0, 6] slicesBy_S2304x2x1536_S2304x2x192_0s1_0s1_6s8 tn x bits))
    (part 7#32 ![0, 0, 7] slicesBy_S2304x2x1536_S2304x2x192_0s1_0s1_7s8 tn x bits)

/-- Each request's scale. -/
def scales (tn : IVec S2304 32) (ds : FVec F S14 .f32) : FVec F S2304 .f32 :=
  Host.gather gather_S14_S2304x1_S2304_n_0_n_n_0_1_1 ds
    (broadcastInDim S2304x1 ![0] bcast_S2304_S2304x1_0
      (select (cmpi .slt tn (broadcastInDim S2304 ![] bcast_S_S2304 (constantI S_ 32 0#32)))
        (addi tn (broadcastInDim S2304 ![] bcast_S_S2304 (constantI S_ 32 14#32))) tn))

/-- The result. -/
def result (tn : IVec S2304 32) (x : FVec F S2304x2x1536 .bf16) (w : FVec F S1536x8960 .bf16) (bs : FVec F S8960 .f32)
    (bits : IVec S14x192x8960 8) (ds : FVec F S14 .f32) : FVec F S2304x2x8960 .bf16 :=
  truncf .bf16 (addf
    (mulf (Host.dotGeneral dot_S2304x2x1536_S1536x8960_S2304x2x8960_2_0_01_1_n_n none x w)
      (broadcastInDim S2304x2x8960 ![0, 1, 2] bcast_S1x1x8960_S2304x2x8960_0_1_2 (broadcastInDim S1x1x8960 ![2] bcast_S8960_S1x1x8960_2 bs)))
    (mulf (broadcastInDim S2304x2x8960 ![0, 1, 2] bcast_S2304x1x1_S2304x2x8960_0_1_2 (broadcastInDim S2304x1x1 ![0] bcast_S2304_S2304x1x1_0 (scales tn ds)))
      (delta tn x bits))) bitsLt_bf16_f32

set_option maxRecDepth 1000000 in
set_option maxHeartbeats 2000000 in
/-- The lines after the region leave `result` of what they read. -/
theorem after_result (U : Valuation τ sig (Elt F)) : StableHlo.after hostOps1 U (Proc.devRef .tc main_v169)
    = result (U (Proc.devRef .tc main_v2)) (U (Proc.devRef .tc main_arg0)) (U (Proc.devRef .tc main_v3)) (U (Proc.devRef .tc main_arg2))
        (U (Proc.devRef .tc main_arg3)) (U (Proc.devRef .tc main_arg4)) := by
  after_reads_simp
  rfl

/-- The lines before the region leave `tenant` of the sizes. -/
theorem after_tenant (U : Valuation τ sig (Elt F)) :
    StableHlo.after (List.flatten [hostOps0, hostOps0_1, hostOps0_2]) U (Proc.devRef .tc main_v2) = tenant (U (Proc.devRef .tc main_arg5)) := by
  simp only [List.flatten_cons, List.flatten_nil, List.append_nil, List.cons_append, List.nil_append]
  after_reads_simp
  simp -implicitDefEqProofs only [StableHlo.TRef.toBuf, StableHlo.TRef.ofBuf, cast_cast, cast_eq]
  rfl

end Cert.ReferenceIdeal.Term
-- ==== Proof.RefVal.lean ====
/-
  The reference's result over the extended reals, element by element.
-/
module

public import proofs.«01_k».proof.Proof.RefTerm
public import proofs.«01_k».proof.Proof.Val
public import Idealize.ShloMosaic.Lib.Pipeline.ValueKit
public import Idealize.ShloMosaic.Lib.Routing.Ops
public import Idealize.ShloMosaic.Lib.Routing.OpsSearch
public import Idealize.ShloMosaic.Lib.Routing.OpsSet
public import Idealize.ShloMosaic.Lib.Routing.OpsPair
public import Idealize.ShloMosaic.Lib.WordCmp

@[expose] public section

set_option maxRecDepth 16384

noncomputable section

namespace Cert.ReferenceIdeal.Term

open Cert.ReferenceIdeal Cert.ReferenceIdeal.Gen Idealize.ShloMosaic Idealize.ShloMosaic.TcCoe

/-! ## The tenant of a request -/

theorem sums_apply (sizes : IVec S14 32) (i : Fin 14) : sums sizes (ValueIdx.ix1 i) = BitVec.ofNat 32 (Cert.Sizes.upto sizes (i.val + 1)) :=
  Routing.cumsum1 (N := 14) (Nm1 := 13) rfl sizes (Cert.Sizes.at' sizes) (Cert.Sizes.at'_word sizes) _ rfl _ _ i

theorem tenant_apply (sizes : IVec S14 32) (hU : Cert.Sizes.upto sizes 14 = 2304) (b : Fin 2304) :
    tenant sizes (ValueIdx.ix1 b) = BitVec.ofNat 32 (Cert.Sizes.owner sizes hU b).val := by
  apply BitVec.eq_of_toNat_eq
  unfold tenant
  refine (StableHlo.Predicate.toNat_reduce_count_rows (by decide) (passed sizes) natLt_1_32 reducesTo_S14x2304_S2304_d0 h_S_ (ValueIdx.ix1 b)).trans ?_
  have hlt := (Cert.Sizes.owner sizes hU b).isLt
  rw [BitVec.toNat_ofNat, Nat.mod_eq_of_lt (by omega)]
  show _ = Nat.count (fun i => Cert.Sizes.upto sizes (i + 1) ≤ b.val) 14
  rw [Nat.count_eq_card_filter_range, Finset.card_filter, Finset.card_filter, ← Fin.sum_univ_eq_sum_range (fun i => if Cert.Sizes.upto sizes (i + 1) ≤ b.val then 1 else 0) 14]
  refine Finset.sum_congr rfl fun p _ => ?_
  have h : passed sizes (ValueIdx.ix2 p b) = 1#1 ↔ Cert.Sizes.upto sizes (p.val + 1) ≤ b.val := by
    unfold passed
    pointwise
    have hb : b.val < 2304 := b.isLt
    have hp := Cert.Sizes.upto_mono sizes (show p.val + 1 ≤ 14 by omega)
    rw [hU] at hp
    have e := sums_apply sizes p
    refine Iff.trans ?_ (WordCmp.cmpi_sle_ofNat_eq_one_iff (w := 32) (a := Cert.Sizes.upto sizes (p.val + 1)) (b := b.val) (by omega) (by omega))
    rw [← e]
    rfl
  exact if_congr h rfl rfl

/-! ## The pieces -/

theorem onehot_apply (tn : IVec S2304 32) (b : Fin 2304) (u t : Fin 14) (h : tn (ValueIdx.ix1 b) = BitVec.ofNat 32 u.val) :
    onehot (F := Ideal) tn (ValueIdx.ix2 b t) = if t = u then (1 : EReal) else 0 := by
  unfold onehot
  pointwise
  show FloatOps.uitofp .bf16 (IntOp.cmpi .eq (tn (ValueIdx.ix1 b)) (BitVec.ofNat 32 t.val)) = _
  have hu := u.isLt
  have ht := t.isLt
  rw [h, WordCmp.cmpi_eq_ofNat (w := 32) (by omega) (by omega)]
  by_cases e : t = u
  · subst e
    rw [if_pos rfl, decide_eq_true rfl]
    show (((1#1 : BitVec 1).toNat : ℝ) : EReal) = 1
    simp
  · rw [if_neg e, decide_eq_false fun he => e (Fin.ext he.symm)]
    show (((0#1 : BitVec 1).toNat : ℝ) : EReal) = 0
    simp

/-- Twice a bit less one, over words. -/
theorem sign_word : ∀ (j : Fin 8) (v : BitVec 8), IntOp.subi (IntOp.muli (2#32)
    (IntOp.andi (IntOp.shrsi .host (BitVec.setWidth 32 v) (BitVec.ofNat 32 j.val)) 1#32)) 1#32 = if v.getLsbD j.val then 1#32 else -1#32 := by
  decide +kernel

theorem signAt_apply (j : Fin 8) (bits : IVec S14x192x8960 8) (t : Fin 14) (k : Fin 192) (n : Fin 8960) :
    signAt (F := Ideal) (BitVec.ofNat 32 j.val) bits (ValueIdx.ix3 t k n) = Cert.Sizes.pm ((bits (ValueIdx.ix3 t k n)).getLsbD j.val) := by
  unfold signAt
  pointwise
  rw [sign_word]
  cases (bits (ValueIdx.ix3 t k n)).getLsbD j.val
  · show (((-1#32 : BitVec 32).toInt : ℝ) : EReal) = -1
    rw [show (-1#32 : BitVec 32).toInt = -1 by decide]
    simp
  · show (((1#32 : BitVec 32).toInt : ℝ) : EReal) = 1
    rw [show (1#32 : BitVec 32).toInt = 1 by decide]
    simp

theorem part_apply (j : Fin 8) {o : Fin 3 → ℕ} (ho : o = ![0, 0, j.val]) (h : S2304x2x1536.SlicesBy o ![1, 1, 8] S2304x2x192) (tn : IVec S2304 32)
    (x : FVec Ideal S2304x2x1536 .bf16) (bits : IVec S14x192x8960 8) (b : Fin 2304) (s : Fin 2) (n : Fin 8960) (u : Fin 14) (hu : tn (ValueIdx.ix1 b) = BitVec.ofNat 32 u.val) :
    part (F := Ideal) (BitVec.ofNat 32 j.val) o h tn x bits (ValueIdx.ix3 b s n)
      = ∑ k : Fin 192, (x (ValueIdx.ix3 b s (⟨j.val + 8 * k.val, by omega⟩ : Fin 1536)) : EReal) * Cert.Sizes.pm ((bits (ValueIdx.ix3 u k n)).getLsbD j.val) := by
  subst ho
  unfold part spread
  pointwise
  refine Finset.sum_congr rfl fun k _ => ?_
  refine (Finset.sum_eq_single u (fun t _ hne => ?_) (fun hn => absurd (Finset.mem_univ u) hn)).trans ?_
  · refine (congrArg (fun z : EReal => _ * z * _) ((onehot_apply tn b u t hu).trans (if_neg hne))).trans ?_
    rw [mul_zero, zero_mul]
  · refine (congrArg₂ (fun z v : EReal => _ * z * v) ((onehot_apply tn b u u hu).trans (if_pos rfl)) (signAt_apply j bits u k n)).trans ?_
    rw [mul_one]
    rfl

theorem scales_apply (tn : IVec S2304 32) (ds : FVec Ideal S14 .f32) (b : Fin 2304) (u : Fin 14) (h : tn (ValueIdx.ix1 b) = BitVec.ofNat 32 u.val) :
    scales tn ds (ValueIdx.ix1 b) = ds (ValueIdx.ix1 u) := by
  unfold scales
  refine Routing.gather_take1 (N := 14) (n := 2304) _ rfl rfl rfl rfl ds _ b u ?_ (by decide)
  pointwise
  show Scalar.select (IntOp.cmpi .slt (tn (ValueIdx.ix1 b)) 0#32) _ (tn (ValueIdx.ix1 b)) = _
  rw [Routing.wrap_of_lt _ _ (by rw [h, BitVec.toNat_ofNat]; have := u.isLt; omega), h]

theorem delta_apply (tn : IVec S2304 32) (x : FVec Ideal S2304x2x1536 .bf16) (bits : IVec S14x192x8960 8) (b : Fin 2304) (s : Fin 2) (n : Fin 8960) (u : Fin 14)
    (hu : tn (ValueIdx.ix1 b) = BitVec.ofNat 32 u.val) :
    delta (F := Ideal) tn x bits (ValueIdx.ix3 b s n)
      = ∑ k : Fin 1536, (x (ValueIdx.ix3 b s k) : EReal) * Cert.Sizes.pm ((bits (ValueIdx.ix3 u (⟨k.val / 8, by omega⟩ : Fin 192) n)).getLsbD (k.val % 8)) := by
  have hp := fun (j : Fin 8) (o : Fin 3 → ℕ) (ho : o = ![0, 0, j.val]) (h : S2304x2x1536.SlicesBy o ![1, 1, 8] S2304x2x192) => part_apply j ho h tn x bits b s n u hu
  have e : ∑ k : Fin 1536, (x (ValueIdx.ix3 b s k) : EReal) * Cert.Sizes.pm ((bits (ValueIdx.ix3 u (⟨k.val / 8, by omega⟩ : Fin 192) n)).getLsbD (k.val % 8))
      = ∑ j : Fin 8, ∑ k : Fin 192, (x (ValueIdx.ix3 b s (⟨j.val + 8 * k.val, by omega⟩ : Fin 1536)) : EReal) * Cert.Sizes.pm ((bits (ValueIdx.ix3 u k n)).getLsbD j.val) := by
    rw [Finset.sum_comm, ← Fintype.sum_prod_type']
    refine (Fintype.sum_equiv (finProdFinEquiv (m := 192) (n := 8)) _ _ fun p => ?_).symm
    obtain ⟨k, j⟩ := p
    have hv : (finProdFinEquiv (m := 192) (n := 8) (k, j)).val = j.val + 8 * k.val := rfl
    have h1 : (⟨(finProdFinEquiv (m := 192) (n := 8) (k, j)).val / 8, by omega⟩ : Fin 192) = k := Fin.ext (by show _ / 8 = k.val; rw [hv]; omega)
    have h2 : (finProdFinEquiv (m := 192) (n := 8) (k, j)).val % 8 = j.val := by rw [hv]; omega
    show _ = _ * Cert.Sizes.pm ((bits (ValueIdx.ix3 u (⟨(finProdFinEquiv (m := 192) (n := 8) (k, j)).val / 8, _⟩ : Fin 192) n)).getLsbD ((finProdFinEquiv (m := 192) (n := 8) (k, j)).val % 8))
    rw [h1, h2]
    rfl
  rw [e, Fin.sum_univ_eight]
  unfold delta
  simp only [← hp 0 _ rfl slicesBy_S2304x2x1536_S2304x2x192_0s1_0s1_0s8, ← hp 1 _ rfl slicesBy_S2304x2x1536_S2304x2x192_0s1_0s1_1s8,
    ← hp 2 _ rfl slicesBy_S2304x2x1536_S2304x2x192_0s1_0s1_2s8, ← hp 3 _ rfl slicesBy_S2304x2x1536_S2304x2x192_0s1_0s1_3s8,
    ← hp 4 _ rfl slicesBy_S2304x2x1536_S2304x2x192_0s1_0s1_4s8, ← hp 5 _ rfl slicesBy_S2304x2x1536_S2304x2x192_0s1_0s1_5s8,
    ← hp 6 _ rfl slicesBy_S2304x2x1536_S2304x2x192_0s1_0s1_6s8, ← hp 7 _ rfl slicesBy_S2304x2x1536_S2304x2x192_0s1_0s1_7s8]
  rfl

/-- The result, element by element. -/
theorem result_apply (tn : IVec S2304 32) (x : FVec Ideal S2304x2x1536 .bf16) (w : FVec Ideal S1536x8960 .bf16) (bs : FVec Ideal S8960 .f32)
    (bits : IVec S14x192x8960 8) (ds : FVec Ideal S14 .f32) (b : Fin 2304) (s : Fin 2) (n : Fin 8960) (u : Fin 14)
    (hu : tn (ValueIdx.ix1 b) = BitVec.ofNat 32 u.val) :
    result tn x w bs bits ds (ValueIdx.ix3 b s n) = Cert.Sizes.val x w bs bits ds u b s n := by
  unfold Cert.Sizes.val
  rw [← delta_apply tn x bits b s n u hu, ← scales_apply tn ds b u hu]
  unfold result
  pointwise
  rfl

end Cert.ReferenceIdeal.Term
-- ==== Proof.RefMain.lean ====
/-
  The reference's run over the extended reals, with its result named.
-/
module

public import proofs.«01_k».proof.Proof.RefVal
public import Idealize.ShloMosaic.Lib.Claim

@[expose] public section

set_option maxRecDepth 16384

noncomputable section

namespace Cert.ReferenceIdeal.Term

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg)

theorem idx : ∀ t : Fin cfg0.N, win0_0.index t = ![0, 0] ∧ win0_1.index t = ![0, 0] :=
  (by decide +kernel : ∀ t : Fin grid0.N, _)

/-- The widened weights are the weights. -/
theorem widened (c : Dev nD) : (dats m 0 c).arrAt 1 (cfgs 0).N = m ((c : Thread nD τ).loc main_arg1) := by
  refine (dats m 0 c).arrAt_eq_of_covers 1 _ (by decide +kernel) fun t hf y => ?_
  blk_simp
  rw [after0_1]
  frame_out
  pointwise [k0_pay1]
  blk_point [iblk, V_main_arg1, idx t]

/-- The result at its own shape. -/
def value (c : Dev nD) (hU : Cert.Sizes.upto (m ((c : Thread nD τ).loc main_arg5)) 14 = 2304) : Vec Ideal S2304x2x8960 .bf16 := fun i =>
  Cert.Sizes.val (m ((c : Thread nD τ).loc main_arg0)) (m ((c : Thread nD τ).loc main_arg1)) (m ((c : Thread nD τ).loc main_arg2))
    (m ((c : Thread nD τ).loc main_arg3)) (m ((c : Thread nD τ).loc main_arg4))
    (Cert.Sizes.owner (m ((c : Thread nD τ).loc main_arg5)) hU (i 0)) (i 0) (i 1) (i 2)

/-- What the region leaves in a buffer no window of it has. -/
theorem kept (c : Dev nD) (b : Ref sig .tc) (hb : ∀ w, Pipeline.arrRef (cfgs 0).spec w ≠ b) :
    Pipeline.withArrays (cfgs 0).spec c (V0 m c) (fun w => (dats m 0 c).arrAt w (cfgs 0).N) (Proc.devRef .tc b) = V m c b :=
  Pipeline.withArrays_of_ne (cfgs 0).spec c (V0 m c) _ b hb

/-- The contents of the result buffer at the end. -/
theorem tail_value (c : Dev nD) (hU : Cert.Sizes.upto (m ((c : Thread nD τ).loc main_arg5)) 14 = 2304) :
    Pipeline.afterTail₀ cfgs (dats m) 0 (V0 m) [hostOps1] c main_v169 = value m c hU := by
  show StableHlo.after hostOps1 (Pipeline.withArrays (cfgs 0).spec c (V0 m c) fun w => (dats m 0 c).arrAt w (cfgs 0).N) (Proc.devRef .tc main_v169) = _
  rw [after_result]
  have e3 : Pipeline.withArrays (cfgs 0).spec c (V0 m c) (fun w => (dats m 0 c).arrAt w (cfgs 0).N) (Proc.devRef .tc main_v3) = m ((c : Thread nD τ).loc main_arg1) :=
    (Pipeline.withArrays_arr (cfgs 0).spec (by decide) c (V0 m c) (fun w => (dats m 0 c).arrAt w (cfgs 0).N) 1).trans (widened m c)
  have e2 : Pipeline.withArrays (cfgs 0).spec c (V0 m c) (fun w => (dats m 0 c).arrAt w (cfgs 0).N) (Proc.devRef .tc main_v2) = tenant (m ((c : Thread nD τ).loc main_arg5)) :=
    (kept m c main_v2 (by decide)).trans (after_tenant _)
  rw [e2, e3, (kept m c main_arg0 (by decide)).trans (V_main_arg0 m c), (kept m c main_arg2 (by decide)).trans (V_main_arg2 m c),
    (kept m c main_arg3 (by decide)).trans (V_main_arg3 m c), (kept m c main_arg4 (by decide)).trans (V_main_arg4 m c)]
  funext i
  obtain ⟨b, s, n, rfl⟩ : ∃ (b : Fin 2304) (s : Fin 2) (n : Fin 8960), i = ValueIdx.ix3 b s n := ⟨i 0, i 1, i 2, by funext a; match a with | ⟨0, _⟩ => rfl | ⟨1, _⟩ => rfl | ⟨2, _⟩ => rfl⟩
  exact result_apply _ _ _ _ _ _ b s n _ (tenant_apply _ hU b)

/-- THE RUN with its value: the result is `value`, the arguments are unchanged. -/
theorem run_value (hU : ∀ c : Dev nD, Cert.Sizes.upto (m ((c : Thread nD τ).loc main_arg5)) 14 = 2304) :
    θ_run defs (onTc (τ := τ) (main (F := Ideal))) ⟨m, fun _ => 0, ρ⟩ (fun r => ∀ c : Dev nD,
      r.2.mem ((c.tc : Thread nD τ).loc main_v169) = value m c (hU c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have hf := (θ_run defs _ _).mono (fun _ h => h.1) (frame m ρ)
  refine (θ_run defs _ _).mono (fun r hr c => ⟨?_, hr.2 c⟩) (θ_run_and (run_main m ρ) hf)
  rw [(hr.1 c).2 main_v169 (by decide)]
  exact tail_value m c (hU c)

end Cert.ReferenceIdeal.Term
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_sizes_partition_batch
public import proofs.«01_k».proof.Proof.Blocks
public import proofs.«01_k».proof.Proof.Bits.Blocks
public import proofs.«01_k».proof.Proof.Main
public import proofs.«01_k».proof.Proof.RefMain

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_sizes_partition_batch.Gen.facts, by
  refine ⟨?_, ?_, ?_, ?_, ?_, ?_⟩
  · intro m g h
    exact Cert.Kernel.Body.frame m g (Cert.Kernel.Body.sizesOK m h)
  · intro m g h
    exact Cert.KernelIdeal.Body.frame m g (Cert.KernelIdeal.Body.sizesOK m h)
  · intro m g _
    exact Cert.ReferenceIdeal.Gen.frame m g
  · intro m g _
    exact Cert.ReferenceIdeal.Gen.frame m g
  · trivial
  · intro m g m' g' h hagree
    have hU : ∀ c : Dev Cert.KernelIdeal.nD, Cert.Sizes.upto (m ((c.tc : Thread Cert.KernelIdeal.nD Cert.KernelIdeal.τ).loc Cert.KernelIdeal.main_arg5)) 14 = 2304 :=
      fun c => Cert.Sizes.of_pre _ (h c)
    have hU' : ∀ c : Dev Cert.ReferenceIdeal.nD, Cert.Sizes.upto (m' ((c.tc : Thread Cert.ReferenceIdeal.nD Cert.ReferenceIdeal.τ).loc Cert.ReferenceIdeal.main_arg5)) 14 = 2304 :=
      fun c => by rw [(hagree c).2.2.2.2.2]; exact hU c
    refine ⟨fun c => Cert.KernelIdeal.Body.value m c (hU c), Cert.KernelIdeal.Body.run_value m g (Cert.KernelIdeal.Body.sizesOK m h) hU, ?_⟩
    refine (θ_run _ _ _).mono (fun r hr c => ⟨(hr c).1.trans ?_, (hr c).2⟩) (Cert.ReferenceIdeal.Term.run_value m' g' hU')
    obtain ⟨e0, e1, e2, e3, e4, e5⟩ := hagree c
    funext i
    exact Cert.Sizes.val_congr (hU' c) (hU c) e0 e1 e2 e3 e4 e5 (i 0) (i 1) (i 2)⟩

end Cert.Proof

end
